-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v10_0)) (v3 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v10_0) = v2 c
          ∧ r.2.mem ((c.tc : Thread Cert.KernelIdeal.nD Cert.KernelIdeal.τ).loc Cert.KernelIdeal.main_v10_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x16x256 : Shape := ⟨4, ![6, 2048, 16, 256]⟩
abbrev S6x2048x16 : Shape := ⟨3, ![6, 2048, 16]⟩
abbrev S6x2048x4096 : Shape := ⟨3, ![6, 2048, 4096]⟩
abbrev S6x2048 : Shape := ⟨2, ![6, 2048]⟩
abbrev S6x32x2x128x1536 : Shape := ⟨5, ![6, 32, 2, 128, 1536]⟩
abbrev S6x32x2x128 : Shape := ⟨4, ![6, 32, 2, 128]⟩
abbrev S1536x4096 : Shape := ⟨2, ![1536, 4096]⟩
abbrev S4096 : Shape := ⟨1, ![4096]⟩
abbrev S12288x4096 : Shape := ⟨2, ![12288, 4096]⟩
abbrev S12288x16 : Shape := ⟨2, ![12288, 16]⟩
abbrev S12288x1 : Shape := ⟨2, ![12288, 1]⟩
abbrev S49152x1536 : Shape := ⟨2, ![49152, 1536]⟩
abbrev S49152x1 : Shape := ⟨2, ![49152, 1]⟩
abbrev S1x4096 : Shape := ⟨2, ![1, 4096]⟩
abbrev S49152x4096 : Shape := ⟨2, ![49152, 4096]⟩
abbrev S64x4096 : Shape := ⟨2, ![64, 4096]⟩
abbrev S64x16 : Shape := ⟨2, ![64, 16]⟩
abbrev S64x1 : Shape := ⟨2, ![64, 1]⟩
abbrev S256x1536 : Shape := ⟨2, ![256, 1536]⟩
abbrev S256x1 : Shape := ⟨2, ![256, 1]⟩
abbrev S256x4096 : Shape := ⟨2, ![256, 4096]⟩
abbrev S1536x512 : Shape := ⟨2, ![1536, 512]⟩
abbrev S256x512 : Shape := ⟨2, ![256, 512]⟩
abbrev S1x512 : Shape := ⟨2, ![1, 512]⟩
abbrev S64x256 : Shape := ⟨2, ![64, 256]⟩
abbrev S256x256 : Shape := ⟨2, ![256, 256]⟩
abbrev S64 : Shape := ⟨1, ![64]⟩
abbrev S512x4096 : Shape := ⟨2, ![512, 4096]⟩
abbrev S512x1536 : Shape := ⟨2, ![512, 1536]⟩
abbrev S2048x1536 : Shape := ⟨2, ![2048, 1536]⟩
abbrev S2048x1 : Shape := ⟨2, ![2048, 1]⟩
abbrev S2048x512 : Shape := ⟨2, ![2048, 512]⟩
abbrev S1536x2048 : Shape := ⟨2, ![1536, 2048]⟩

abbrev nBuf : Space → Nat
  | .hbm => 26
  | .vmem => 48
  | .smem => 0
  | _ => 0

abbrev bufTy : (tb : Table) → Fin (tcTables nBuf tb) → BufTy
  | .hbm, ⟨0, _⟩ => ⟨S6x2048x16x256, .fp8e4m3⟩
  | .hbm, ⟨1, _⟩ => ⟨S6x2048x16, .f32⟩
  | .hbm, ⟨2, _⟩ => ⟨S6x2048x4096, .fp8e5m2⟩
  | .hbm, ⟨3, _⟩ => ⟨S6x2048, .f32⟩
  | .hbm, ⟨4, _⟩ => ⟨S6x32x2x128x1536, .fp8e4m3⟩
  | .hbm, ⟨5, _⟩ => ⟨S6x32x2x128, .f32⟩
  | .hbm, ⟨6, _⟩ => ⟨S1536x4096, .i8⟩
  | .hbm, ⟨7, _⟩ => ⟨S1536x4096, .i8⟩
  | .hbm, ⟨8, _⟩ => ⟨S4096, .f32⟩
  | .hbm, ⟨9, _⟩ => ⟨S4096, .f32⟩
  | .hbm, ⟨10, _⟩ => ⟨S12288x4096, .fp8e4m3⟩
  | .hbm, ⟨11, _⟩ => ⟨S12288x16, .f32⟩
  | .hbm, ⟨12, _⟩ => ⟨S12288x4096, .fp8e5m2⟩
  | .hbm, ⟨13, _⟩ => ⟨S12288x1, .f32⟩
  | .hbm, ⟨14, _⟩ => ⟨S49152x1536, .fp8e4m3⟩
  | .hbm, ⟨15, _⟩ => ⟨S49152x1, .f32⟩
  | .hbm, ⟨16, _⟩ => ⟨S1x4096, .f32⟩
  | .hbm, ⟨17, _⟩ => ⟨S1x4096, .f32⟩
  | .hbm, ⟨18, _⟩ => ⟨S12288x4096, .bf16⟩
  | .hbm, ⟨19, _⟩ => ⟨S49152x4096, .bf16⟩
  | .hbm, ⟨20, _⟩ => ⟨S49152x4096, .bf16⟩
  | .hbm, ⟨21, _⟩ => ⟨S49152x1536, .bf16⟩
  | .hbm, ⟨22, _⟩ => ⟨S1536x4096, .f32⟩
  | .hbm, ⟨23, _⟩ => ⟨S1536x4096, .f32⟩
  | .hbm, ⟨24, _⟩ => ⟨S6x2048x16x256, .bf16⟩
  | .hbm, ⟨25, _⟩ => ⟨S6x32x2x128x1536, .bf16⟩
  | .local _ .vmem, ⟨0, _⟩ => ⟨S64x4096, .fp8e4m3⟩
  | .local _ .vmem, ⟨1, _⟩ => ⟨S64x4096, .fp8e4m3⟩
  | .local _ .vmem, ⟨2, _⟩ => ⟨S64x16, .f32⟩
  | .local _ .vmem, ⟨3, _⟩ => ⟨S64x16, .f32⟩
  | .local _ .vmem, ⟨4, _⟩ => ⟨S64x4096, .fp8e5m2⟩
  | .local _ .vmem, ⟨5, _⟩ => ⟨S64x4096, .fp8e5m2⟩
  | .local _ .vmem, ⟨6, _⟩ => ⟨S64x1, .f32⟩
  | .local _ .vmem, ⟨7, _⟩ => ⟨S64x1, .f32⟩
  | .local _ .vmem, ⟨8, _⟩ => ⟨S256x1536, .fp8e4m3⟩
  | .local _ .vmem, ⟨9, _⟩ => ⟨S256x1536, .fp8e4m3⟩
  | .local _ .vmem, ⟨10, _⟩ => ⟨S256x1, .f32⟩
  | .local _ .vmem, ⟨11, _⟩ => ⟨S256x1, .f32⟩
  | .local _ .vmem, ⟨12, _⟩ => ⟨S1536x4096, .i8⟩
  | .local _ .vmem, ⟨13, _⟩ => ⟨S1536x4096, .i8⟩
  | .local _ .vmem, ⟨14, _⟩ => ⟨S1x4096, .f32⟩
  | .local _ .vmem, ⟨15, _⟩ => ⟨S1x4096, .f32⟩
  | .local _ .vmem, ⟨16, _⟩ => ⟨S64x4096, .bf16⟩
  | .local _ .vmem, ⟨17, _⟩ => ⟨S64x4096, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x1536, .bf16⟩
  | .local _ .vmem, ⟨23, _⟩ => ⟨S256x4096, .bf16⟩
  | .local _ .vmem, ⟨24, _⟩ => ⟨S256x4096, .bf16⟩
  | .local _ .vmem, ⟨25, _⟩ => ⟨S512x4096, .bf16⟩
  | .local _ .vmem, ⟨26, _⟩ => ⟨S512x4096, .bf16⟩
  | .local _ .vmem, ⟨27, _⟩ => ⟨S512x4096, .bf16⟩
  | .local _ .vmem, ⟨28, _⟩ => ⟨S512x4096, .bf16⟩
  | .local _ .vmem, ⟨29, _⟩ => ⟨S1536x4096, .i8⟩
  | .local _ .vmem, ⟨30, _⟩ => ⟨S1536x4096, .i8⟩
  | .local _ .vmem, ⟨31, _⟩ => ⟨S1x4096, .f32⟩
  | .local _ .vmem, ⟨32, _⟩ => ⟨S1x4096, .f32⟩
  | .local _ .vmem, ⟨33, _⟩ => ⟨S512x1536, .bf16⟩
  | .local _ .vmem, ⟨34, _⟩ => ⟨S512x1536, .bf16⟩
  | .local _ .vmem, ⟨35, _⟩ => ⟨S2048x1536, .fp8e4m3⟩
  | .local _ .vmem, ⟨36, _⟩ => ⟨S2048x1536, .fp8e4m3⟩
  | .local _ .vmem, ⟨37, _⟩ => ⟨S2048x1, .f32⟩
  | .local _ .vmem, ⟨38, _⟩ => ⟨S2048x1, .f32⟩
  | .local _ .vmem, ⟨39, _⟩ => ⟨S2048x512, .bf16⟩
  | .local _ .vmem, ⟨40, _⟩ => ⟨S2048x512, .bf16⟩
  | .local _ .vmem, ⟨41, _⟩ => ⟨S2048x512, .bf16⟩
  | .local _ .vmem, ⟨42, _⟩ => ⟨S2048x512, .bf16⟩
  | .local _ .vmem, ⟨43, _⟩ => ⟨S1536x512, .f32⟩
  | .local _ .vmem, ⟨44, _⟩ => ⟨S1536x512, .f32⟩
  | .local _ .vmem, ⟨45, _⟩ => ⟨S1536x512, .f32⟩
  | .local _ .vmem, ⟨46, _⟩ => ⟨S1536x512, .f32⟩
  | .local _ .vmem, ⟨47, _⟩ => ⟨S1536x2048, .bf16⟩
  | _, _ => ⟨S6x2048x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg6_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg5_1 : Ref sig .tc := ⟨.vmem, 46, rfl⟩
abbrev cc2_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem6_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x4096 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x4096 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x4096 .i8 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1536 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 24], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S2048x1536 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1536x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1536x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S6x2048x16x256 : Shape := ⟨4, ![6, 2048, 16, 256]⟩
abbrev S6x2048x16 : Shape := ⟨3, ![6, 2048, 16]⟩
abbrev S6x2048x4096 : Shape := ⟨3, ![6, 2048, 4096]⟩
abbrev S6x2048 : Shape := ⟨2, ![6, 2048]⟩
abbrev S6x32x2x128x1536 : Shape := ⟨5, ![6, 32, 2, 128, 1536]⟩
abbrev S6x32x2x128 : Shape := ⟨4, ![6, 32, 2, 128]⟩
abbrev S1536x4096 : Shape := ⟨2, ![1536, 4096]⟩
abbrev S4096 : Shape := ⟨1, ![4096]⟩
abbrev S1x4096 : Shape := ⟨2, ![1, 4096]⟩
abbrev S6x8192x1536 : Shape := ⟨3, ![6, 8192, 1536]⟩
abbrev S6x8192 : Shape := ⟨2, ![6, 8192]⟩
abbrev S6x8192x4096 : Shape := ⟨3, ![6, 8192, 4096]⟩
abbrev S6x8192x1 : Shape := ⟨3, ![6, 8192, 1]⟩
abbrev S1x1x4096 : Shape := ⟨3, ![1, 1, 4096]⟩
abbrev S6x32x256x16x256 : Shape := ⟨5, ![6, 32, 256, 16, 256]⟩
abbrev S6x32x64x16x256 : Shape := ⟨5, ![6, 32, 64, 16, 256]⟩
abbrev S6x32x64x16 : Shape := ⟨4, ![6, 32, 64, 16]⟩
abbrev S6x32x64 : Shape := ⟨3, ![6, 32, 64]⟩
abbrev S6x32x16x64 : Shape := ⟨4, ![6, 32, 16, 64]⟩
abbrev S_ : Shape := ⟨0, ![]⟩
abbrev S6x32x16x64x1 : Shape := ⟨5, ![6, 32, 16, 64, 1]⟩
abbrev S6x32x16x64x256 : Shape := ⟨5, ![6, 32, 16, 64, 256]⟩
abbrev S6x32x1x64x1 : Shape := ⟨5, ![6, 32, 1, 64, 1]⟩
abbrev S6x32x64x16x1 : Shape := ⟨5, ![6, 32, 64, 16, 1]⟩
abbrev S6x32x64x1x1 : Shape := ⟨5, ![6, 32, 64, 1, 1]⟩
abbrev S6x32x16x256x256 : Shape := ⟨5, ![6, 32, 16, 256, 256]⟩
abbrev S6x1536x4096 : Shape := ⟨3, ![6, 1536, 4096]⟩

abbrev nBuf : Space → Nat
  | .hbm => 120
  | .vmem => 10
  | .smem => 0
  | _ => 0

abbrev bufTy : (tb : Table) → Fin (tcTables nBuf tb) → BufTy
  | .hbm, ⟨0, _⟩ => ⟨S6x2048x16x256, .fp8e4m3⟩
  | .hbm, ⟨1, _⟩ => ⟨S6x2048x16, .f32⟩
  | .hbm, ⟨2, _⟩ => ⟨S6x2048x4096, .fp8e5m2⟩
  | .hbm, ⟨3, _⟩ => ⟨S6x2048, .f32⟩
  | .hbm, ⟨4, _⟩ => ⟨S6x32x2x128x1536, .fp8e4m3⟩
  | .hbm, ⟨5, _⟩ => ⟨S6x32x2x128, .f32⟩
  | .hbm, ⟨6, _⟩ => ⟨S1536x4096, .i8⟩
  | .hbm, ⟨7, _⟩ => ⟨S1536x4096, .i8⟩
  | .hbm, ⟨8, _⟩ => ⟨S4096, .f32⟩
  | .hbm, ⟨9, _⟩ => ⟨S4096, .f32⟩
  | .hbm, ⟨10, _⟩ => ⟨S6x2048x16x256, .bf16⟩
  | .hbm, ⟨11, _⟩ => ⟨S6x2048x4096, .bf16⟩
  | .hbm, ⟨12, _⟩ => ⟨S6x32x2x128x1536, .bf16⟩
  | .hbm, ⟨13, _⟩ => ⟨S1536x4096, .bf16⟩
  | .hbm, ⟨14, _⟩ => ⟨S1536x4096, .bf16⟩
  | .hbm, ⟨15, _⟩ => ⟨S4096, .bf16⟩
  | .hbm, ⟨16, _⟩ => ⟨S1x4096, .bf16⟩
  | .hbm, ⟨17, _⟩ => ⟨S1536x4096, .bf16⟩
  | .hbm, ⟨18, _⟩ => ⟨S1536x4096, .bf16⟩
  | .hbm, ⟨19, _⟩ => ⟨S4096, .bf16⟩
  | .hbm, ⟨20, _⟩ => ⟨S1x4096, .bf16⟩
  | .hbm, ⟨21, _⟩ => ⟨S1536x4096, .bf16⟩
  | .hbm, ⟨22, _⟩ => ⟨S1536x4096, .bf16⟩
  | .hbm, ⟨23, _⟩ => ⟨S6x8192x1536, .bf16⟩
  | .hbm, ⟨24, _⟩ => ⟨S6x8192, .f32⟩
  | .hbm, ⟨25, _⟩ => ⟨S6x8192x4096, .f32⟩
  | .hbm, ⟨26, _⟩ => ⟨S6x8192x1, .f32⟩
  | .hbm, ⟨27, _⟩ => ⟨S6x8192x4096, .f32⟩
  | .hbm, ⟨28, _⟩ => ⟨S6x8192x4096, .f32⟩
  | .hbm, ⟨29, _⟩ => ⟨S1x1x4096, .f32⟩
  | .hbm, ⟨30, _⟩ => ⟨S6x8192x4096, .f32⟩
  | .hbm, ⟨31, _⟩ => ⟨S6x8192x4096, .f32⟩
  | .hbm, ⟨32, _⟩ => ⟨S6x8192x4096, .bf16⟩
  | .hbm, ⟨33, _⟩ => ⟨S6x32x256x16x256, .bf16⟩
  | .hbm, ⟨34, _⟩ => ⟨S6x8192x4096, .f32⟩
  | .hbm, ⟨35, _⟩ => ⟨S6x8192x1, .f32⟩
  | .hbm, ⟨36, _⟩ => ⟨S6x8192x4096, .f32⟩
  | .hbm, ⟨37, _⟩ => ⟨S6x8192x4096, .f32⟩
  | .hbm, ⟨38, _⟩ => ⟨S1x1x4096, .f32⟩
  | .hbm, ⟨39, _⟩ => ⟨S6x8192x4096, .f32⟩
  | .hbm, ⟨40, _⟩ => ⟨S6x8192x4096, .f32⟩
  | .hbm, ⟨41, _⟩ => ⟨S6x8192x4096, .bf16⟩
  | .hbm, ⟨42, _⟩ => ⟨S6x32x256x16x256, .bf16⟩
  | .hbm, ⟨43, _⟩ => ⟨S6x32x64x16x256, .bf16⟩
  | .hbm, ⟨44, _⟩ => ⟨S6x32x64x16, .f32⟩
  | .hbm, ⟨45, _⟩ => ⟨S6x32x64x16x256, .bf16⟩
  | .hbm, ⟨46, _⟩ => ⟨S6x32x64, .f32⟩
  | .hbm, ⟨47, _⟩ => ⟨S6x32x16x64, .f32⟩
  | .hbm, ⟨48, _⟩ => ⟨S_, .f32⟩
  | .hbm, ⟨49, _⟩ => ⟨S6x32x16x64, .f32⟩
  | .hbm, ⟨50, _⟩ => ⟨S6x32x16x64, .f32⟩
  | .hbm, ⟨51, _⟩ => ⟨S6x32x16x64x1, .f32⟩
  | .hbm, ⟨52, _⟩ => ⟨S6x32x16x64x256, .f32⟩
  | .hbm, ⟨53, _⟩ => ⟨S6x32x16x64x256, .f32⟩
  | .hbm, ⟨54, _⟩ => ⟨S6x32x16x64x256, .f32⟩
  | .hbm, ⟨55, _⟩ => ⟨S_, .f32⟩
  | .hbm, ⟨56, _⟩ => ⟨S6x32x16x64, .f32⟩
  | .hbm, ⟨57, _⟩ => ⟨S6x32x16x64x1, .f32⟩
  | .hbm, ⟨58, _⟩ => ⟨S6x32x16x64x256, .f32⟩
  | .hbm, ⟨59, _⟩ => ⟨S6x32x16x64x256, .f32⟩
  | .hbm, ⟨60, _⟩ => ⟨S6x32x16x64x256, .f32⟩
  | .hbm, ⟨61, _⟩ => ⟨S_, .f32⟩
  | .hbm, ⟨62, _⟩ => ⟨S6x32x16x64, .f32⟩
  | .hbm, ⟨63, _⟩ => ⟨S6x32x16x64x1, .f32⟩
  | .hbm, ⟨64, _⟩ => ⟨S6x32x16x64x256, .f32⟩
  | .hbm, ⟨65, _⟩ => ⟨S6x32x16x64x256, .f32⟩
  | .hbm, ⟨66, _⟩ => ⟨S6x32x1x64x1, .f32⟩
  | .hbm, ⟨67, _⟩ => ⟨S6x32x16x64x256, .f32⟩
  | .hbm, ⟨68, _⟩ => ⟨S6x32x16x64x256, .f32⟩
  | .hbm, ⟨69, _⟩ => ⟨S6x32x16x64x256, .f32⟩
  | .hbm, ⟨70, _⟩ => ⟨S6x32x16x64x256, .f32⟩
  | .hbm, ⟨71, _⟩ => ⟨S_, .f32⟩
  | .hbm, ⟨72, _⟩ => ⟨S6x32x16x64, .f32⟩
  | .hbm, ⟨73, _⟩ => ⟨S6x32x16x64x1, .f32⟩
  | .hbm, ⟨74, _⟩ => ⟨S6x32x16x64x256, .f32⟩
  | .hbm, ⟨75, _⟩ => ⟨S6x32x16x64x256, .f32⟩
  | .hbm, ⟨76, _⟩ => ⟨S6x32x16x64x256, .f32⟩
  | .hbm, ⟨77, _⟩ => ⟨S6x32x16x64x256, .bf16⟩
  | .hbm, ⟨78, _⟩ => ⟨S6x32x16x64x256, .bf16⟩
  | .hbm, ⟨79, _⟩ => ⟨S6x32x64x16, .bf16⟩
  | .hbm, ⟨80, _⟩ => ⟨S6x32x64x16x1, .bf16⟩
  | .hbm, ⟨81, _⟩ => ⟨S6x32x64x16x256, .bf16⟩
  | .hbm, ⟨82, _⟩ => ⟨S6x32x64x16x256, .bf16⟩
  | .hbm, ⟨83, _⟩ => ⟨S6x32x64, .bf16⟩
  | .hbm, ⟨84, _⟩ => ⟨S6x32x64x1x1, .bf16⟩
  | .hbm, ⟨85, _⟩ => ⟨S6x32x64x16x256, .bf16⟩
  | .hbm, ⟨86, _⟩ => ⟨S6x32x64x16x256, .bf16⟩
  | .hbm, ⟨87, _⟩ => ⟨S6x32x16x64x256, .f32⟩
  | .hbm, ⟨88, _⟩ => ⟨S_, .f32⟩
  | .hbm, ⟨89, _⟩ => ⟨S6x32x16x64x256, .f32⟩
  | .hbm, ⟨90, _⟩ => ⟨S6x32x16x64x256, .f32⟩
  | .hbm, ⟨91, _⟩ => ⟨S6x32x16x64x256, .bf16⟩
  | .hbm, ⟨92, _⟩ => ⟨S6x32x64x16x256, .bf16⟩
  | .hbm, ⟨93, _⟩ => ⟨S6x2048x16x256, .bf16⟩
  | .hbm, ⟨94, _⟩ => ⟨S6x32x16x256x256, .f32⟩
  | .hbm, ⟨95, _⟩ => ⟨S_, .f32⟩
  | .hbm, ⟨96, _⟩ => ⟨S6x32x16x256x256, .f32⟩
  | .hbm, ⟨97, _⟩ => ⟨S6x32x16x256x256, .f32⟩
  | .hbm, ⟨98, _⟩ => ⟨S6x32x16x256x256, .bf16⟩
  | .hbm, ⟨99, _⟩ => ⟨S6x32x16x256x256, .f32⟩
  | .hbm, ⟨100, _⟩ => ⟨S6x32x16x256x256, .bf16⟩
  | .hbm, ⟨101, _⟩ => ⟨S6x32x256x16x256, .bf16⟩
  | .hbm, ⟨102, _⟩ => ⟨S6x8192x4096, .bf16⟩
  | .hbm, ⟨103, _⟩ => ⟨S6x32x256x16x256, .bf16⟩
  | .hbm, ⟨104, _⟩ => ⟨S6x8192x4096, .bf16⟩
  | .hbm, ⟨105, _⟩ => ⟨S6x8192x1536, .f32⟩
  | .hbm, ⟨106, _⟩ => ⟨S6x8192x1536, .f32⟩
  | .hbm, ⟨107, _⟩ => ⟨S6x8192x1536, .f32⟩
  | .hbm, ⟨108, _⟩ => ⟨S6x8192x1536, .bf16⟩
  | .hbm, ⟨109, _⟩ => ⟨S6x32x2x128x1536, .bf16⟩
  | .hbm, ⟨110, _⟩ => ⟨S6x8192, .bf16⟩
  | .hbm, ⟨111, _⟩ => ⟨S6x8192x1, .bf16⟩
  | .hbm, ⟨112, _⟩ => ⟨S6x8192x1536, .bf16⟩
  | .hbm, ⟨113, _⟩ => ⟨S6x8192x1536, .bf16⟩
  | .hbm, ⟨114, _⟩ => ⟨S6x1536x4096, .f32⟩
  | .hbm, ⟨115, _⟩ => ⟨S6x1536x4096, .f32⟩
  | .hbm, ⟨116, _⟩ => ⟨S_, .f32⟩
  | .hbm, ⟨117, _⟩ => ⟨S1536x4096, .f32⟩
  | .hbm, ⟨118, _⟩ => ⟨S_, .f32⟩
  | .hbm, ⟨119, _⟩ => ⟨S1536x4096, .f32⟩
  | .local _ .vmem, ⟨0, _⟩ => ⟨S6x2048x16x256, .fp8e4m3⟩
  | .local _ .vmem, ⟨1, _⟩ => ⟨S6x2048x4096, .fp8e5m2⟩
  | .local _ .vmem, ⟨2, _⟩ => ⟨S6x32x2x128x1536, .fp8e4m3⟩
  | .local _ .vmem, ⟨3, _⟩ => ⟨S1536x4096, .i8⟩
  | .local _ .vmem, ⟨4, _⟩ => ⟨S1536x4096, .i8⟩
  | .local _ .vmem, ⟨5, _⟩ => ⟨S6x2048x16x256, .bf16⟩
  | .local _ .vmem, ⟨6, _⟩ => ⟨S6x2048x4096, .bf16⟩
  | .local _ .vmem, ⟨7, _⟩ => ⟨S6x32x2x128x1536, .bf16⟩
  | .local _ .vmem, ⟨8, _⟩ => ⟨S1536x4096, .bf16⟩
  | .local _ .vmem, ⟨9, _⟩ => ⟨S1536x4096, .bf16⟩
  | _, _ => ⟨S6x2048x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_2 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_3 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_4 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_5 : Ref sig .tc := ⟨.hbm, 116, rfl⟩
abbrev main_v96 : Ref sig .tc := ⟨.hbm, 117, rfl⟩
abbrev main_cst_6 : Ref sig .tc := ⟨.hbm, 118, rfl⟩
abbrev main_v97 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x2048x16x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x32x2x128x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4096 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2048x16x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x32x2x128x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Run.lean ====
/- The run of the three-stage kernel with its results named: each result array ends at the contents the stages leave, and
   those contents are read off the stages' own arrays. -/
module

public import proofs.«01_k».proof.Proof.Gen.KernelIdeal.Frame
public import Idealize.ShloMosaic.Lib.StableHlo.Run
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run of the kernel terminates with each result array at its final contents and the arguments as
    launched. -/
theorem run : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_v12) = W5 m ρ c (Proc.devRef .tc main_v12)
      ∧ r.2.mem ((c.tc : Thread nD τ).loc main_v10_0) = W5 m ρ c (Proc.devRef .tc main_v10_0)
      ∧ r.2.mem ((c.tc : Thread nD τ).loc main_v10_1) = W5 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨(h c _ (mem_uc main_v11 (by decide))),
       (h c _ (mem_uc main_v12 (by decide))),
       (h c _ (mem_uc main_v10_0 (by decide))),
       (h c _ (mem_uc main_v10_1 (by decide))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

/-- The queries' gradient is the first stage's first output, reshaped. -/
theorem v11_eq (c : Dev nD) : W5 m ρ c (Proc.devRef .tc main_v11)
    = shapeCast S6x2048x16x256 ((dat0 (V1 m ρ) c).arrAt 10 cfg0.N) shapeCasts_S12288x4096_S6x2048x16x256 := by
  rw [show (dat0 (V1 m ρ) c).arrAt 10 cfg0.N = W4 m ρ c (Proc.devRef .tc main_v8_0) from
    (W2_arr m ρ c 10).symm.trans ((W3_of_ne m ρ c main_v8_0 (by decide)).symm.trans (W4_of_ne m ρ c main_v8_0 (by decide)).symm)]
  after_results_simp
  rfl

/-- The embeddings' gradient is the second stage's output, reshaped. -/
theorem v12_eq (c : Dev nD) : W5 m ρ c (Proc.devRef .tc main_v12)
    = shapeCast S6x32x2x128x1536 ((dat1 (V2 m ρ) c).arrAt 6 cfg1.N) shapeCasts_S49152x1536_S6x32x2x128x1536 := by
  rw [show (dat1 (V2 m ρ) c).arrAt 6 cfg1.N = W4 m ρ c (Proc.devRef .tc main_v9) from
    (W3_arr m ρ c 6).symm.trans (W4_of_ne m ρ c main_v9 (by decide)).symm]
  after_results_simp
  rfl

/-- The key weights' gradient is the third stage's first output. -/
theorem v10_0_eq (c : Dev nD) : W5 m ρ c (Proc.devRef .tc main_v10_0) = (dat2 (V3 m ρ) c).arrAt 4 cfg2.N := by
  exact (W5_of m ρ c main_v10_0 (by decide)).trans (W4_arr m ρ c 4)

/-- The value weights' gradient is the third stage's second output. -/
theorem v10_1_eq (c : Dev nD) : W5 m ρ c (Proc.devRef .tc main_v10_1) = (dat2 (V3 m ρ) c).arrAt 5 cfg2.N := by
  exact (W5_of m ρ c main_v10_1 (by decide)).trans (W4_arr m ρ c 5)

/-- What the second and third stage find of the keys' gradient is what the first stage leaves. -/
theorem V2_dk (c : Dev nD) : V2 m ρ c main_v8_1 = (dat0 (V1 m ρ) c).arrAt 11 cfg0.N := W2_arr m ρ c 11
/-- The same of the values' gradient. -/
theorem V2_dv (c : Dev nD) : V2 m ρ c main_v8_2 = (dat0 (V1 m ρ) c).arrAt 12 cfg0.N := W2_arr m ρ c 12
/-- The third stage finds the keys' gradient as the second did. -/
theorem V3_dk (c : Dev nD) : V3 m ρ c main_v8_1 = (dat0 (V1 m ρ) c).arrAt 11 cfg0.N :=
  (W3_of m ρ c main_v8_1 (by decide)).trans (W2_arr m ρ c 11)
/-- The same of the values' gradient. -/
theorem V3_dv (c : Dev nD) : V3 m ρ c main_v8_2 = (dat0 (V1 m ρ) c).arrAt 12 cfg0.N :=
  (W3_of m ρ c main_v8_2 (by decide)).trans (W2_arr m ρ c 12)

end Cert.KernelIdeal.Run

end
-- ==== Proof.Spec.lean ====
/- The mathematics of the backward pass, over extended reals and coordinates: one head of one chunk first, then the four
   results from the ten arguments laid out as matrices. -/
module

public import Idealize.ShloMosaic.Lib.Pointwise

@[expose] public section

noncomputable section

namespace Cert.Spec

open Idealize.ShloMosaic

/-- The scale of the scores, one over the square root of the head dimension: one sixteenth. -/
def scale : EReal := Ideal.ofBits .f32 0x3D800000#32

/-- The bottom from which a row maximum starts. -/
def bot : EReal := Ideal.ofBits .f32 0xFF800000#32

/-! ### One head of one chunk: 64 queries, 256 keys, head dimension 256 -/

section Head

variable (Q DO : Fin 64 → Fin 256 → EReal) (qs dos : Fin 64 → EReal) (K V : Fin 256 → Fin 256 → EReal)

/-- The score of query `i` and key `j`. -/
def score (i : Fin 64) (j : Fin 256) : EReal := (scale * qs i) * ∑ d : Fin 256, Q i d * K j d

/-- The greatest score of query `i`. -/
def top (i : Fin 64) : EReal := (Finset.univ : Finset (Fin 256)).fold max bot fun j => score Q qs K i j

/-- The exponential of a score less the greatest one. -/
def expo (i : Fin 64) (j : Fin 256) : EReal := Ideal.exp (score Q qs K i j - top Q qs K i)

/-- The attention probability. -/
def prob (i : Fin 64) (j : Fin 256) : EReal := Ideal.div (expo Q qs K i j) (∑ j : Fin 256, expo Q qs K i j)

/-- The gradient of the probability. -/
def dprob (i : Fin 64) (j : Fin 256) : EReal := dos i * ∑ d : Fin 256, DO i d * V j d

/-- The gradient of the score. -/
def dscore (i : Fin 64) (j : Fin 256) : EReal :=
  prob Q qs K i j * (dprob DO dos V i j - ∑ j : Fin 256, prob Q qs K i j * dprob DO dos V i j)

/-- The gradient of the query. -/
def dq (i : Fin 64) (d : Fin 256) : EReal := scale * ∑ j : Fin 256, dscore Q DO qs dos K V i j * K j d

/-- The gradient of the key. -/
def dk (j : Fin 256) (d : Fin 256) : EReal := scale * ∑ i : Fin 64, dscore Q DO qs dos K V i j * (Q i d * qs i)

/-- The gradient of the value. -/
def dv (j : Fin 256) (d : Fin 256) : EReal := ∑ i : Fin 64, prob Q qs K i j * (DO i d * dos i)

end Head

/-! ### The whole problem -/

/-- The ten arguments as matrices: queries, output gradients and keys by row. -/
structure Data where
  Q : Fin 12288 → Fin 4096 → EReal
  QS : Fin 12288 → Fin 16 → EReal
  DO : Fin 12288 → Fin 4096 → EReal
  DOS : Fin 12288 → EReal
  EM : Fin 49152 → Fin 1536 → EReal
  ES : Fin 49152 → EReal
  WK : Fin 1536 → Fin 4096 → EReal
  WV : Fin 1536 → Fin 4096 → EReal
  WKS : Fin 4096 → EReal
  WVS : Fin 4096 → EReal

/-- Query `i` of chunk `t`. -/
def qrow (t : Fin 192) (i : Fin 64) : Fin 12288 := ⟨64 * t.val + i.val, by omega⟩

/-- Key `j` of chunk `t`. -/
def krow (t : Fin 192) (j : Fin 256) : Fin 49152 := ⟨256 * t.val + j.val, by omega⟩

/-- Column `d` of head `h`. -/
def hcol (h : Fin 16) (d : Fin 256) : Fin 4096 := ⟨256 * h.val + d.val, by omega⟩

/-- A projected key or value: embedding times weight, times the two scales. -/
def proj (EM : Fin 49152 → Fin 1536 → EReal) (ES : Fin 49152 → EReal) (W : Fin 1536 → Fin 4096 → EReal)
    (WS : Fin 4096 → EReal) (r : Fin 49152) (n : Fin 4096) : EReal :=
  ((∑ e : Fin 1536, EM r e * W e n) * ES r) * WS n

namespace Data

variable (D : Data)

/-- The queries of head `h` of chunk `t`. -/
def q (t : Fin 192) (h : Fin 16) (i : Fin 64) (d : Fin 256) : EReal := D.Q (qrow t i) (hcol h d)
/-- Their scales. -/
def qs (t : Fin 192) (h : Fin 16) (i : Fin 64) : EReal := D.QS (qrow t i) h
/-- The output gradients of head `h` of chunk `t`. -/
def o (t : Fin 192) (h : Fin 16) (i : Fin 64) (d : Fin 256) : EReal := D.DO (qrow t i) (hcol h d)
/-- Their scales. -/
def os (t : Fin 192) (i : Fin 64) : EReal := D.DOS (qrow t i)
/-- The keys of head `h` of chunk `t`. -/
def k (t : Fin 192) (h : Fin 16) (j : Fin 256) (d : Fin 256) : EReal := proj D.EM D.ES D.WK D.WKS (krow t j) (hcol h d)
/-- The values of head `h` of chunk `t`. -/
def v (t : Fin 192) (h : Fin 16) (j : Fin 256) (d : Fin 256) : EReal := proj D.EM D.ES D.WV D.WVS (krow t j) (hcol h d)

/-- The gradient of the queries. -/
def dq (t : Fin 192) (h : Fin 16) (i : Fin 64) (d : Fin 256) : EReal :=
  Spec.dq (D.q t h) (D.o t h) (D.qs t h) (D.os t) (D.k t h) (D.v t h) i d
/-- The gradient of the keys. -/
def dk (t : Fin 192) (h : Fin 16) (j : Fin 256) (d : Fin 256) : EReal :=
  Spec.dk (D.q t h) (D.o t h) (D.qs t h) (D.os t) (D.k t h) (D.v t h) j d
/-- The gradient of the values. -/
def dv (t : Fin 192) (h : Fin 16) (j : Fin 256) (d : Fin 256) : EReal :=
  Spec.dv (D.q t h) (D.o t h) (D.qs t h) (D.os t) (D.k t h) j d

/-- A gradient by chunk and head, as a matrix over all keys and columns. -/
def flat (f : Fin 192 → Fin 16 → Fin 256 → Fin 256 → EReal) (r : Fin 49152) (n : Fin 4096) : EReal :=
  f ⟨r.val / 256, by omega⟩ ⟨n.val / 256, by omega⟩ ⟨r.val % 256, by omega⟩ ⟨n.val % 256, by omega⟩

/-- The gradient of the embeddings. -/
def demb (r : Fin 49152) (e : Fin 1536) : EReal :=
  (∑ n : Fin 4096, flat D.dk r n * (D.WK e n * D.WKS n)) + ∑ n : Fin 4096, flat D.dv r n * (D.WV e n * D.WVS n)

/-- The gradient of a weight, from the gradient `G` of what it projects to. -/
def dw (G : Fin 49152 → Fin 4096 → EReal) (e : Fin 1536) (n : Fin 4096) : EReal :=
  ∑ r : Fin 49152, (D.EM r e * D.ES r) * G r n

end Data

end Cert.Spec

end
-- ==== Proof.Head.lean ====
/- One head of the first stage, on blocks: what its three stores hold and what a store of the projections holds, each read
   at an index and put on the mathematics. -/
module

public import proofs.«01_k».proof.Proof.Gen.KernelIdeal.Skeleton
public import proofs.«01_k».proof.Proof.Spec

@[expose] public section

set_option maxRecDepth 16384

noncomputable section

namespace Cert.KernelIdeal.Head

open Cert.KernelIdeal Cert.KernelIdeal.Gen Idealize.ShloMosaic

variable (q : Vec Ideal S64x256 .fp8e4m3) (o : Vec Ideal S64x256 .fp8e5m2) (qs os : Vec Ideal S64x1 .f32)
  (k v : Vec Ideal S256x256 .bf16)

/-- The probabilities of a head, from its queries, their scales and its keys. -/
def P : FVec Ideal S64x256 .f32 := k0_pay19 (k0_pay12 q k) qs

/-- The gradients of the probabilities. -/
def DP : FVec Ideal S64x256 .f32 := k0_pay20 (k0_pay6 os) (k0_pay13 o v)

/-- The gradients of the scores. -/
def DS : FVec Ideal S64x256 .bf16 := k0_pay23 (P q qs k) (DP o os v) (k0_pay21 (k0_pay6 os) (k0_pay12 q k) (k0_pay13 o v) qs)

/-- What a head stores of the gradient of the queries. -/
def dqP : FVec Ideal S64x256 .bf16 := k0_pay29 (DS q o qs os k v) k

/-- What a head stores of the gradient of the keys. -/
def dkP : FVec Ideal S256x256 .bf16 := k0_pay30 (DS q o qs os k v) (k0_pay27 q qs)

/-- What a head stores of the gradient of the values. -/
def dvP : FVec Ideal S256x256 .bf16 := k0_pay31 (k0_pay22 (P q qs k)) (k0_pay28 (k0_pay7 os) o)

theorem P_apply (i : Fin 64) (j : Fin 256) :
    P q qs k (ix2 i j) = Spec.prob (fun a b => q (ix2 a b)) (fun a => qs (ix2 a 0)) (fun a b => k (ix2 a b)) i j := by
  pointwise [P, k0_pay19, k0_pay12, Spec.prob, Spec.expo, Spec.top, Spec.score, Spec.scale, Spec.bot]

theorem DP_apply (i : Fin 64) (j : Fin 256) :
    DP o os v (ix2 i j) = Spec.dprob (fun a b => o (ix2 a b)) (fun a => os (ix2 a 0)) (fun a b => v (ix2 a b)) i j := by
  pointwise [DP, k0_pay20, k0_pay6, k0_pay13, Spec.dprob]

theorem DS_apply (i : Fin 64) (j : Fin 256) :
    DS q o qs os k v (ix2 i j)
      = Spec.dscore (fun a b => q (ix2 a b)) (fun a b => o (ix2 a b)) (fun a => qs (ix2 a 0)) (fun a => os (ix2 a 0))
          (fun a b => k (ix2 a b)) (fun a b => v (ix2 a b)) i j := by
  have h : k0_pay21 (k0_pay6 os) (k0_pay12 q k) (k0_pay13 o v) qs = mulf (P q qs k) (DP o os v) := rfl
  rw [DS, h, Spec.dscore]
  simp only [← P_apply, ← DP_apply]
  generalize P q qs k = p
  generalize DP o os v = dp
  pointwise [k0_pay23]

/-- The gradient of the queries a head stores, at an index. -/
theorem dqP_apply (i : Fin 64) (d : Fin 256) :
    dqP q o qs os k v (ix2 i d)
      = Spec.dq (fun a b => q (ix2 a b)) (fun a b => o (ix2 a b)) (fun a => qs (ix2 a 0)) (fun a => os (ix2 a 0))
          (fun a b => k (ix2 a b)) (fun a b => v (ix2 a b)) i d := by
  rw [dqP, Spec.dq]
  simp only [← DS_apply]
  generalize DS q o qs os k v = ds
  pointwise [k0_pay29, Spec.scale]

/-- The gradient of the keys a head stores, at an index. -/
theorem dkP_apply (j : Fin 256) (d : Fin 256) :
    dkP q o qs os k v (ix2 j d)
      = Spec.dk (fun a b => q (ix2 a b)) (fun a b => o (ix2 a b)) (fun a => qs (ix2 a 0)) (fun a => os (ix2 a 0))
          (fun a b => k (ix2 a b)) (fun a b => v (ix2 a b)) j d := by
  rw [dkP, Spec.dk]
  simp only [← DS_apply]
  generalize DS q o qs os k v = ds
  pointwise [k0_pay30, k0_pay27, Spec.scale]

/-- The gradient of the values a head stores, at an index. -/
theorem dvP_apply (j : Fin 256) (d : Fin 256) :
    dvP q o qs os k (ix2 j d)
      = Spec.dv (fun a b => q (ix2 a b)) (fun a b => o (ix2 a b)) (fun a => qs (ix2 a 0)) (fun a => os (ix2 a 0))
          (fun a b => k (ix2 a b)) j d := by
  rw [dvP, Spec.dv]
  simp only [← P_apply]
  generalize P q qs k = p
  pointwise [k0_pay31, k0_pay28, k0_pay22, k0_pay7, k0_pay6]

/-- What one store of the projected keys (or values) holds, at an index: embeddings times weights, times the two scales. -/
theorem proj_apply (es : Vec Ideal S256x1 .f32) (e : Vec Ideal S256x1536 .bf16) (w : Vec Ideal S1536x512 .i8)
    (ws : Vec Ideal S1x512 .f32) (j : Fin 256) (n : Fin 512) :
    k0_pay8 es e w ws (ix2 j n)
      = ((∑ a : Fin 1536, e (ix2 j a) * (FloatOps.sitofp .bf16 (w (ix2 a n)) : Ideal .bf16)) * es (ix2 j 0)) * ws (ix2 0 n) := by
  pointwise [k0_pay8, k0_pay5]

end Cert.KernelIdeal.Head

end
-- ==== Proof.Blocks.lean ====
/- The first stage on its blocks: the three output blocks as functions of the ten input blocks, and each head's store read
   as a part of them. -/
module

public import proofs.«01_k».proof.Proof.Head
public import Idealize.ShloMosaic.Lib.Pipeline.ValueKit

@[expose] public section

set_option maxRecDepth 16384

noncomputable section

namespace Cert.KernelIdeal.Blocks

open Cert.KernelIdeal Cert.KernelIdeal.Gen Idealize.ShloMosaic Idealize.ShloMosaic.TcCoe

/-- The projected keys (or values) of a chunk, all heads: embeddings times weights, times the two scales. -/
def KP (es : Vec Ideal S256x1 .f32) (e : Vec Ideal S256x1536 .fp8e4m3) (w : Vec Ideal S1536x4096 .i8)
    (ws : Vec Ideal S1x4096 .f32) : Vec Ideal S256x4096 .bf16 := fun y =>
  ((∑ a : Fin 1536, e (ix2 (y 0) a) * (FloatOps.sitofp .bf16 (w (ix2 a (y 1))) : Ideal .bf16)) * es (ix2 (y 0) 0))
    * ws (ix2 0 (y 1))

/-- The head a column lies in. -/
def hd (n : Fin 4096) : Fin 16 := ⟨n.val / 256, by omega⟩
/-- The column's place in its head. -/
def dm (n : Fin 4096) : Fin 256 := ⟨n.val % 256, by omega⟩

section

variable (x0 : Vec Ideal S64x4096 .fp8e4m3) (x1 : Vec Ideal S64x16 .f32) (x2 : Vec Ideal S64x4096 .fp8e5m2)
  (x3 : Vec Ideal S64x1 .f32) (x4 : Vec Ideal S256x1536 .fp8e4m3) (x5 : Vec Ideal S256x1 .f32)
  (x6 x7 : Vec Ideal S1536x4096 .i8) (x8 x9 : Vec Ideal S1x4096 .f32)

/-- The block of the queries' gradient. -/
def Gdq : Vec Ideal S64x4096 .bf16 := fun y =>
  Spec.dq (fun a b => x0 (ix2 a (Spec.hcol (hd (y 1)) b))) (fun a b => x2 (ix2 a (Spec.hcol (hd (y 1)) b)))
    (fun a => x1 (ix2 a (hd (y 1)))) (fun a => x3 (ix2 a 0))
    (fun a b => KP x5 x4 x6 x8 (ix2 a (Spec.hcol (hd (y 1)) b))) (fun a b => KP x5 x4 x7 x9 (ix2 a (Spec.hcol (hd (y 1)) b)))
    (y 0) (dm (y 1))

/-- The block of the keys' gradient. -/
def Gdk : Vec Ideal S256x4096 .bf16 := fun y =>
  Spec.dk (fun a b => x0 (ix2 a (Spec.hcol (hd (y 1)) b))) (fun a b => x2 (ix2 a (Spec.hcol (hd (y 1)) b)))
    (fun a => x1 (ix2 a (hd (y 1)))) (fun a => x3 (ix2 a 0))
    (fun a b => KP x5 x4 x6 x8 (ix2 a (Spec.hcol (hd (y 1)) b))) (fun a b => KP x5 x4 x7 x9 (ix2 a (Spec.hcol (hd (y 1)) b)))
    (y 0) (dm (y 1))

/-- The block of the values' gradient. -/
def Gdv : Vec Ideal S256x4096 .bf16 := fun y =>
  Spec.dv (fun a b => x0 (ix2 a (Spec.hcol (hd (y 1)) b))) (fun a b => x2 (ix2 a (Spec.hcol (hd (y 1)) b)))
    (fun a => x1 (ix2 a (hd (y 1)))) (fun a => x3 (ix2 a 0))
    (fun a b => KP x5 x4 x6 x8 (ix2 a (Spec.hcol (hd (y 1)) b)))
    (y 0) (dm (y 1))

end

/-! ### The projections in scratch -/

/-- A list of stores that holds the projection `G` on its first `512 n` columns. -/
def Good (G : Vec Ideal S256x4096 .bf16) (L : List (View.Piece (Elt Ideal) S256x4096 .bf16)) (n : ℕ) : Prop :=
  (∀ p ∈ L, ∀ x : p.1.shape.Idx, p.2 x = G (p.1.emb x)) ∧
    ∀ y : S256x4096.Idx, (y 1 : ℕ) < 512 * n → ∃ p ∈ L, y ∈ p.1.set

theorem good_nil (G : Vec Ideal S256x4096 .bf16) : Good G [] 0 :=
  ⟨fun p hp => absurd hp List.not_mem_nil, fun y hy => absurd hy (by omega)⟩

theorem inb_w {o : ℕ} (inb : ∀ a, (![0, o] : Fin 2 → ℕ) a + (![256, 512] : Fin 2 → ℕ) a ≤ S256x4096.size a) (a : Fin 2) :
    (![0, o] : Fin 2 → ℕ) a + (![1536, 512] : Fin 2 → ℕ) a ≤ S1536x4096.size a := by
  match a with
  | ⟨0, _⟩ => exact le_refl 1536
  | ⟨1, _⟩ => exact inb 1

theorem inb_ws {o : ℕ} (inb : ∀ a, (![0, o] : Fin 2 → ℕ) a + (![256, 512] : Fin 2 → ℕ) a ≤ S256x4096.size a) (a : Fin 2) :
    (![0, o] : Fin 2 → ℕ) a + (![1, 512] : Fin 2 → ℕ) a ≤ S1x4096.size a := by
  match a with
  | ⟨0, _⟩ => exact le_refl 1
  | ⟨1, _⟩ => exact inb 1

/-- One more store of 512 columns. -/
theorem good_cons {es : Vec Ideal S256x1 .f32} {e : Vec Ideal S256x1536 .fp8e4m3} {w : Vec Ideal S1536x4096 .i8}
    {ws : Vec Ideal S1x4096 .f32} {L : List (View.Piece (Elt Ideal) S256x4096 .bf16)} {n o : ℕ}
    (h : Good (KP es e w ws) L n) (ho : o = 512 * n)
    (inb : ∀ a, (![0, o] : Fin 2 → ℕ) a + (![256, 512] : Fin 2 → ℕ) a ≤ S256x4096.size a)
    {p : FVec Ideal S256x512 .bf16}
    (hp : p = k0_pay8 es (k0_pay4 e) (View.ld w (Rect.unit ![0, o] ![1536, 512] (inb_w inb))) (View.ld ws (Rect.unit ![0, o] ![1, 512] (inb_ws inb)))) :
    Good (KP es e w ws) (⟨Rect.unit ![0, o] ![256, 512] inb, p⟩ :: L) (n + 1) := by
  subst hp ho
  refine ⟨fun q hq x => ?_, fun y hy => ?_⟩
  · rcases List.mem_cons.mp hq with rfl | hq
    · obtain ⟨i, d, rfl⟩ : ∃ (i : Fin 256) (d : Fin 512), x = ix2 i d := ⟨x 0, x 1, eq_ix2 x⟩
      have he : k0_pay4 e = e := by
        funext y
        pointwise [k0_pay4]
      rw [he]
      refine (Head.proj_apply _ _ _ _ _ _).trans ?_
      have hb : 512 * n + d.val < 4096 := by
        have h := inb 1
        change 512 * n + 512 ≤ 4096 at h
        have := d.isLt
        omega
      have hx : (Rect.unit (s := S256x4096) ![0, 512 * n] ![256, 512] inb).emb (ix2 i d) = ix2 i ⟨512 * n + d.val, hb⟩ := by
        funext a
        match a with
        | ⟨0, _⟩ => exact Fin.ext ((Nat.zero_add _).trans (Nat.one_mul _))
        | ⟨1, _⟩ => exact Fin.ext (congrArg (512 * n + ·) (Nat.one_mul _))
      have hw : ∀ a : Fin 1536, View.ld w (Rect.unit ![0, 512 * n] ![1536, 512] (inb_w inb)) (ix2 a d) = w (ix2 a ⟨512 * n + d.val, hb⟩) :=
        fun a => View.ld_unit_apply_of w _ _ _ _ _ fun c => by
          match c with
          | ⟨0, _⟩ => exact (Nat.zero_add _).symm
          | ⟨1, _⟩ => rfl
      have hs : View.ld ws (Rect.unit ![0, 512 * n] ![1, 512] (inb_ws inb)) (ix2 0 d) = ws (ix2 0 ⟨512 * n + d.val, hb⟩) :=
        View.ld_unit_apply_of ws _ _ _ _ _ fun c => by
          match c with
          | ⟨0, _⟩ => rfl
          | ⟨1, _⟩ => rfl
      rw [hs, hx]
      simp only [hw]
      rfl
    · exact h.1 q hq x
  · by_cases hlt : (y 1 : ℕ) < 512 * n
    · obtain ⟨q, hq, hy⟩ := h.2 y hlt
      exact ⟨q, List.mem_cons_of_mem _ hq, hy⟩
    · refine ⟨_, List.mem_cons_self, ?_⟩
      rw [Rect.mem_set_unit]
      intro a
      have h0 : (y 0 : ℕ) < 256 := (y 0).isLt
      match a with
      | ⟨0, _⟩ => show 0 ≤ (y 0 : ℕ) ∧ (y 0 : ℕ) < 0 + 256; omega
      | ⟨1, _⟩ => show 512 * n ≤ (y 1 : ℕ) ∧ (y 1 : ℕ) < 512 * n + 512; omega

/-- A load of one head's 256 columns out of such stores is those columns of the projection. -/
theorem read_good (v : View sig .tc .vmem S256x4096 .bf16) {G : Vec Ideal S256x4096 .bf16}
    {L : List (View.Piece (Elt Ideal) S256x4096 .bf16)} {n o : ℕ} (h : Good G L n) (ho : o + 256 ≤ 512 * n)
    (inb : ∀ a, (![0, o] : Fin 2 → ℕ) a + (![256, 256] : Fin 2 → ℕ) a ≤ S256x4096.size a) :
    v.readCov L (Rect.unit ![0, o] ![256, 256] inb).toLoadRect = View.ld G (Rect.unit ![0, o] ![256, 256] inb) := by
  rw [View.readCov_eq_canon']
  funext j
  refine View.canon_apply_of_pieces G L h.1 _ (h.2 _ ?_)
  have := (j 1).isLt
  show o + 1 * (j 1 : ℕ) < _
  have : (j 1 : ℕ) < 256 := this
  omega

/-! ### One head's stores -/

theorem ld_q {φ : EltTy} (X : Vec Ideal S64x4096 φ) {n o : ℕ} (hn : n < 16) (ho : o = 256 * n) (inb) (a : Fin 64) (b : Fin 256) :
    View.ld X (Rect.unit (s := S64x4096) ![0, o] ![64, 256] inb) (ix2 a b) = X (ix2 a (Spec.hcol ⟨n, hn⟩ b)) := by
  refine View.ld_unit_apply_of X _ _ _ _ _ fun d => ?_
  subst ho
  match d with
  | ⟨0, _⟩ => exact (Nat.zero_add _).symm
  | ⟨1, _⟩ => rfl

theorem ld_k {φ : EltTy} (X : Vec Ideal S256x4096 φ) {n o : ℕ} (hn : n < 16) (ho : o = 256 * n) (inb) (a : Fin 256) (b : Fin 256) :
    View.ld X (Rect.unit (s := S256x4096) ![0, o] ![256, 256] inb) (ix2 a b) = X (ix2 a (Spec.hcol ⟨n, hn⟩ b)) := by
  refine View.ld_unit_apply_of X _ _ _ _ _ fun d => ?_
  subst ho
  match d with
  | ⟨0, _⟩ => exact (Nat.zero_add _).symm
  | ⟨1, _⟩ => rfl

theorem inb_k {n o : ℕ} (hn : n < 16) (ho : o = 256 * n) (a : Fin 2) :
    (![0, o] : Fin 2 → ℕ) a + (![256, 256] : Fin 2 → ℕ) a ≤ S256x4096.size a := by
  match a with
  | ⟨0, _⟩ => exact le_refl 256
  | ⟨1, _⟩ => show o + 256 ≤ 4096; omega

theorem ld_s (X : Vec Ideal S64x16 .f32) {n : ℕ} (hn : n < 16) (inb) (a : Fin 64) :
    View.ld X (Rect.unit (s := S64x16) ![0, n] ![64, 1] inb) (ix2 a 0) = X (ix2 a ⟨n, hn⟩) := by
  refine View.ld_unit_apply_of X _ _ _ _ _ fun d => ?_
  match d with
  | ⟨0, _⟩ => exact (Nat.zero_add _).symm
  | ⟨1, _⟩ => rfl

section

variable {x0 : Vec Ideal S64x4096 .fp8e4m3} {x1 : Vec Ideal S64x16 .f32} {x2 : Vec Ideal S64x4096 .fp8e5m2}
  {x3 : Vec Ideal S64x1 .f32} {x4 : Vec Ideal S256x1536 .fp8e4m3} {x5 : Vec Ideal S256x1 .f32}
  {x6 x7 : Vec Ideal S1536x4096 .i8} {x8 x9 : Vec Ideal S1x4096 .f32}
  {n o : ℕ} {iq : ∀ a, (![0, o] : Fin 2 → ℕ) a + (![64, 256] : Fin 2 → ℕ) a ≤ S64x4096.size a}
  {is : ∀ a, (![0, n] : Fin 2 → ℕ) a + (![64, 1] : Fin 2 → ℕ) a ≤ S64x16.size a}
  (hn : n < 16) (ho : o = 256 * n)
  {k k' v : Vec Ideal S256x256 .bf16}
  (hk : k = View.ld (KP x5 x4 x6 x8) (Rect.unit ![0, o] ![256, 256] (inb_k hn ho)))
  (hk' : k' = View.ld (KP x5 x4 x6 x8) (Rect.unit ![0, o] ![256, 256] (inb_k hn ho)))
  (hv : v = View.ld (KP x5 x4 x7 x9) (Rect.unit ![0, o] ![256, 256] (inb_k hn ho)))

include hk hk' hv in
/-- What head `n` stores of the queries' gradient is that head's columns of the block. -/
theorem dq_tile {x : S64x256.Idx} {y : S64x4096.Idx} (h0 : (y 0 : ℕ) = x 0) (h1 : (y 1 : ℕ) = o + x 1) :
    k0_pay29 (Head.DS (View.ld x0 (Rect.unit ![0, o] ![64, 256] iq)) (View.ld x2 (Rect.unit ![0, o] ![64, 256] iq))
        (View.ld x1 (Rect.unit ![0, n] ![64, 1] is)) x3 k v) k' x
      = Gdq x0 x1 x2 x3 x4 x5 x6 x7 x8 x9 y := by
  subst hk hk' hv
  obtain ⟨i, d, rfl⟩ : ∃ (i : Fin 64) (d : Fin 256), x = ix2 i d := ⟨x 0, x 1, eq_ix2 x⟩
  have e0 : y 0 = i := Fin.ext h0
  have h1 : (y 1 : ℕ) = o + d.val := h1
  have eh : hd (y 1) = ⟨n, hn⟩ := Fin.ext (by show (y 1 : ℕ) / 256 = n; omega)
  have ed : dm (y 1) = d := Fin.ext (by show (y 1 : ℕ) % 256 = d; omega)
  rw [Gdq, e0, eh, ed]
  refine (Head.dqP_apply _ _ _ _ _ _ _ _ ).trans ?_
  simp only [ld_q x0 hn ho iq, ld_q x2 hn ho iq, ld_s x1 hn is, ld_k (KP x5 x4 x6 x8) hn ho (inb_k hn ho), ld_k (KP x5 x4 x7 x9) hn ho (inb_k hn ho)]

include hk hv in
/-- What head `n` stores of the keys' gradient is that head's columns of the block. -/
theorem dk_tile {x : S256x256.Idx} {y : S256x4096.Idx} (h0 : (y 0 : ℕ) = x 0) (h1 : (y 1 : ℕ) = o + x 1) :
    Head.dkP (View.ld x0 (Rect.unit ![0, o] ![64, 256] iq)) (View.ld x2 (Rect.unit ![0, o] ![64, 256] iq))
        (View.ld x1 (Rect.unit ![0, n] ![64, 1] is)) x3 k v x
      = Gdk x0 x1 x2 x3 x4 x5 x6 x7 x8 x9 y := by
  subst hk hv
  obtain ⟨i, d, rfl⟩ : ∃ (i : Fin 256) (d : Fin 256), x = ix2 i d := ⟨x 0, x 1, eq_ix2 x⟩
  have e0 : y 0 = i := Fin.ext h0
  have h1 : (y 1 : ℕ) = o + d.val := h1
  have eh : hd (y 1) = ⟨n, hn⟩ := Fin.ext (by show (y 1 : ℕ) / 256 = n; omega)
  have ed : dm (y 1) = d := Fin.ext (by show (y 1 : ℕ) % 256 = d; omega)
  rw [Gdk, e0, eh, ed]
  refine (Head.dkP_apply _ _ _ _ _ _ _ _ ).trans ?_
  simp only [ld_q x0 hn ho iq, ld_q x2 hn ho iq, ld_s x1 hn is, ld_k (KP x5 x4 x6 x8) hn ho (inb_k hn ho), ld_k (KP x5 x4 x7 x9) hn ho (inb_k hn ho)]

include hk in
/-- What head `n` stores of the values' gradient is that head's columns of the block. -/
theorem dv_tile {x : S256x256.Idx} {y : S256x4096.Idx} (h0 : (y 0 : ℕ) = x 0) (h1 : (y 1 : ℕ) = o + x 1) :
    Head.dvP (View.ld x0 (Rect.unit ![0, o] ![64, 256] iq)) (View.ld x2 (Rect.unit ![0, o] ![64, 256] iq))
        (View.ld x1 (Rect.unit ![0, n] ![64, 1] is)) x3 k x
      = Gdv x0 x1 x2 x3 x4 x5 x6 x8 y := by
  subst hk
  obtain ⟨i, d, rfl⟩ : ∃ (i : Fin 256) (d : Fin 256), x = ix2 i d := ⟨x 0, x 1, eq_ix2 x⟩
  have e0 : y 0 = i := Fin.ext h0
  have h1 : (y 1 : ℕ) = o + d.val := h1
  have eh : hd (y 1) = ⟨n, hn⟩ := Fin.ext (by show (y 1 : ℕ) / 256 = n; omega)
  have ed : dm (y 1) = d := Fin.ext (by show (y 1 : ℕ) % 256 = d; omega)
  rw [Gdv, e0, eh, ed]
  refine (Head.dvP_apply _ _ _ _ _ _ _ ).trans ?_
  simp only [ld_q x0 hn ho iq, ld_q x2 hn ho iq, ld_s x1 hn is, ld_k (KP x5 x4 x6 x8) hn ho (inb_k hn ho)]

end

/-! ### The blocks of a chunk -/

section

variable (D : Spec.Data) (t : Fin 192)
  {x0 : Vec Ideal S64x4096 .fp8e4m3} {x1 : Vec Ideal S64x16 .f32} {x2 : Vec Ideal S64x4096 .fp8e5m2}
  {x3 : Vec Ideal S64x1 .f32} {x4 : Vec Ideal S256x1536 .fp8e4m3} {x5 : Vec Ideal S256x1 .f32}
  {x6 x7 : Vec Ideal S1536x4096 .i8} {x8 x9 : Vec Ideal S1x4096 .f32}

/-- The projection of the blocks of chunk `t` is the problem's at the chunk's rows. -/
theorem KP_eq (D : Spec.Data) (W : Fin 1536 → Fin 4096 → EReal) (WS : Fin 4096 → EReal)
    {x6 : Vec Ideal S1536x4096 .i8} {x8 : Vec Ideal S1x4096 .f32}
    (h4 : ∀ a b, x4 (ix2 a b) = D.EM (Spec.krow t a) b) (h5 : ∀ a, x5 (ix2 a 0) = D.ES (Spec.krow t a))
    (h6 : ∀ a b, (FloatOps.sitofp .bf16 (x6 (ix2 a b)) : Ideal .bf16) = W a b) (h8 : ∀ b, x8 (ix2 0 b) = WS b)
    (a : Fin 256) (n : Fin 4096) : KP x5 x4 x6 x8 (ix2 a n) = Spec.proj D.EM D.ES W WS (Spec.krow t a) n := by
  show ((∑ e : Fin 1536, x4 (ix2 a e) * (FloatOps.sitofp .bf16 (x6 (ix2 e n)) : Ideal .bf16)) * x5 (ix2 a 0)) * x8 (ix2 0 n) = _
  simp only [h4, h5, h6, h8]
  rfl

variable
  (h0 : ∀ a b, x0 (ix2 a b) = D.Q (Spec.qrow t a) b) (h1 : ∀ a b, x1 (ix2 a b) = D.QS (Spec.qrow t a) b)
  (h2 : ∀ a b, x2 (ix2 a b) = D.DO (Spec.qrow t a) b) (h3 : ∀ a, x3 (ix2 a 0) = D.DOS (Spec.qrow t a))
  (h4 : ∀ a b, x4 (ix2 a b) = D.EM (Spec.krow t a) b) (h5 : ∀ a, x5 (ix2 a 0) = D.ES (Spec.krow t a))
  (h6 : ∀ a b, (FloatOps.sitofp .bf16 (x6 (ix2 a b)) : Ideal .bf16) = D.WK a b)
  (h7 : ∀ a b, (FloatOps.sitofp .bf16 (x7 (ix2 a b)) : Ideal .bf16) = D.WV a b)
  (h8 : ∀ b, x8 (ix2 0 b) = D.WKS b) (h9 : ∀ b, x9 (ix2 0 b) = D.WVS b)

include h0 h1 h2 h3 h4 h5 h6 h7 h8 h9 in
theorem Gdq_eq (i : Fin 64) (n : Fin 4096) :
    Gdq x0 x1 x2 x3 x4 x5 x6 x7 x8 x9 (ix2 i n) = D.dq t (hd n) i (dm n) := by
  show Spec.dq (fun a b => x0 (ix2 a (Spec.hcol (hd n) b))) (fun a b => x2 (ix2 a (Spec.hcol (hd n) b)))
    (fun a => x1 (ix2 a (hd n))) (fun a => x3 (ix2 a 0))
    (fun a b => KP x5 x4 x6 x8 (ix2 a (Spec.hcol (hd n) b))) (fun a b => KP x5 x4 x7 x9 (ix2 a (Spec.hcol (hd n) b))) i (dm n) = _
  simp only [KP_eq t D D.WK D.WKS h4 h5 h6 h8, KP_eq t D D.WV D.WVS h4 h5 h7 h9, h0, h1, h2, h3]
  rfl

include h0 h1 h2 h3 h4 h5 h6 h7 h8 h9 in
theorem Gdk_eq (i : Fin 256) (n : Fin 4096) :
    Gdk x0 x1 x2 x3 x4 x5 x6 x7 x8 x9 (ix2 i n) = D.dk t (hd n) i (dm n) := by
  show Spec.dk (fun a b => x0 (ix2 a (Spec.hcol (hd n) b))) (fun a b => x2 (ix2 a (Spec.hcol (hd n) b)))
    (fun a => x1 (ix2 a (hd n))) (fun a => x3 (ix2 a 0))
    (fun a b => KP x5 x4 x6 x8 (ix2 a (Spec.hcol (hd n) b))) (fun a b => KP x5 x4 x7 x9 (ix2 a (Spec.hcol (hd n) b))) i (dm n) = _
  simp only [KP_eq t D D.WK D.WKS h4 h5 h6 h8, KP_eq t D D.WV D.WVS h4 h5 h7 h9, h0, h1, h2, h3]
  rfl

include h0 h1 h2 h3 h4 h5 h6 h8 in
theorem Gdv_eq (i : Fin 256) (n : Fin 4096) :
    Gdv x0 x1 x2 x3 x4 x5 x6 x8 (ix2 i n) = D.dv t (hd n) i (dm n) := by
  show Spec.dv (fun a b => x0 (ix2 a (Spec.hcol (hd n) b))) (fun a b => x2 (ix2 a (Spec.hcol (hd n) b)))
    (fun a => x1 (ix2 a (hd n))) (fun a => x3 (ix2 a 0))
    (fun a b => KP x5 x4 x6 x8 (ix2 a (Spec.hcol (hd n) b))) i (dm n) = _
  simp only [KP_eq t D D.WK D.WKS h4 h5 h6 h8, h0, h1, h2, h3]
  rfl

end

end Cert.KernelIdeal.Blocks

end
-- ==== Proof.Attn.lean ====
/- The first stage: the three arrays it leaves, each at the rows of its grid point the block computed from the point's input
   blocks. -/
module

public import proofs.«01_k».proof.Proof.Gen.KernelIdeal.Frame
public import proofs.«01_k».proof.Proof.Blocks

@[expose] public section

set_option maxRecDepth 16384

noncomputable section

namespace Cert.KernelIdeal.Attn

open Cert.KernelIdeal Cert.KernelIdeal.Gen Cert.KernelIdeal.Blocks
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- A grid point's block of the queries' gradient. -/
theorem out_dq (c : Dev nD) (t : Fin cfg0.N) (y) : (outsAt0 V c t).1 y
    = Gdq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y := by
  unfold outsAt0
  frame_out
  canon_tiles z h
  all_goals
    refine dq_tile (hn := ?hn) (ho := ?ho) ?_ ?_ ?_ h0 (by omega)
    case hn => decide
    case ho => rfl
    all_goals
      refine read_good _ (n := ?_) ?_ ?_ _
      rotate_left
      repeat (refine good_cons (n := ?_) ?_ ?_ _ rfl; rotate_left)
      exact good_nil _
      all_goals first | rfl | decide

/-- A grid point's block of the keys' gradient. -/
theorem out_dk (c : Dev nD) (t : Fin cfg0.N) (y) : (outsAt0 V c t).2.1 y
    = Gdk (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y := by
  unfold outsAt0
  frame_out
  canon_tiles z h
  all_goals
    refine dk_tile (hn := ?hn) (ho := ?ho) ?_ ?_ h0 (by omega)
    case hn => decide
    case ho => rfl
    all_goals
      refine read_good _ (n := ?_) ?_ ?_ _
      rotate_left
      repeat (refine good_cons (n := ?_) ?_ ?_ _ rfl; rotate_left)
      exact good_nil _
      all_goals first | rfl | decide

/-- A grid point's block of the values' gradient. -/
theorem out_dv (c : Dev nD) (t : Fin cfg0.N) (y) : (outsAt0 V c t).2.2 y
    = Gdv (iblk0 V c 0 t) (iblk0 V c 1 t) (iblk0 V c 2 t) (iblk0 V c 3 t) (iblk0 V c 4 t) (iblk0 V c 5 t) (iblk0 V c 6 t) (iblk0 V c 8 t) y := by
  unfold outsAt0
  frame_out
  canon_tiles z h
  all_goals
    refine dv_tile (hn := ?hn) (ho := ?ho) ?_ h0 (by omega)
    case hn => decide
    case ho => rfl
    all_goals
      refine read_good _ (n := ?_) ?_ ?_ _
      rotate_left
      repeat (refine good_cons (n := ?_) ?_ ?_ _ rfl; rotate_left)
      exact good_nil _
      all_goals first | rfl | decide

end Cert.KernelIdeal.Attn

end
-- ==== Proof.AttnFinal.lean ====
/- The three arrays the first stage leaves, as the problem's gradients of the arrays it reads. -/
module

public import proofs.«01_k».proof.Proof.Attn

@[expose] public section

set_option maxRecDepth 16384

noncomputable section

namespace Cert.KernelIdeal.Attn

open Cert.KernelIdeal Cert.KernelIdeal.Gen Cert.KernelIdeal.Blocks
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The arrays the first stage reads, as the problem's matrices. -/
def data (c : Dev nD) : Spec.Data where
  Q r n := (V c main_v0 : Vec Ideal S12288x4096 .fp8e4m3) (ix2 r n)
  QS r h := (V c main_v1 : Vec Ideal S12288x16 .f32) (ix2 r h)
  DO r n := (V c main_v2 : Vec Ideal S12288x4096 .fp8e5m2) (ix2 r n)
  DOS r := (V c main_v3 : Vec Ideal S12288x1 .f32) (ix2 r 0)
  EM r e := (V c main_v4 : Vec Ideal S49152x1536 .fp8e4m3) (ix2 r e)
  ES r := (V c main_v5 : Vec Ideal S49152x1 .f32) (ix2 r 0)
  WK e n := (FloatOps.sitofp .bf16 ((V c main_arg6 : Vec Ideal S1536x4096 .i8) (ix2 e n)) : Ideal .bf16)
  WV e n := (FloatOps.sitofp .bf16 ((V c main_arg7 : Vec Ideal S1536x4096 .i8) (ix2 e n)) : Ideal .bf16)
  WKS n := (V c main_v6 : Vec Ideal S1x4096 .f32) (ix2 0 n)
  WVS n := (V c main_v7 : Vec Ideal S1x4096 .f32) (ix2 0 n)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] :=
  (by decide +kernel : ∀ t : Fin grid0.N, _)

/-- The chunk of a grid point. -/
def ch (t : Fin cfg0.N) : Fin 192 := ⟨t.val, t.isLt.trans_le (by decide)⟩

theorem b0 (c : Dev nD) (t : Fin cfg0.N) (a : Fin 64) (b : Fin 4096) :
    (iblk0 V c 0 t : Vec Ideal S64x4096 .fp8e4m3) (ix2 a b) = (data V c).Q (Spec.qrow (ch t) a) b := by
  rw [data, Spec.qrow, ch]
  blk_point [iblk0, idx t]
theorem b1 (c : Dev nD) (t : Fin cfg0.N) (a : Fin 64) (b : Fin 16) :
    (iblk0 V c 1 t : Vec Ideal S64x16 .f32) (ix2 a b) = (data V c).QS (Spec.qrow (ch t) a) b := by
  rw [data, Spec.qrow, ch]
  blk_point [iblk0, idx t]
theorem b2 (c : Dev nD) (t : Fin cfg0.N) (a : Fin 64) (b : Fin 4096) :
    (iblk0 V c 2 t : Vec Ideal S64x4096 .fp8e5m2) (ix2 a b) = (data V c).DO (Spec.qrow (ch t) a) b := by
  rw [data, Spec.qrow, ch]
  blk_point [iblk0, idx t]
theorem b3 (c : Dev nD) (t : Fin cfg0.N) (a : Fin 64) :
    (iblk0 V c 3 t : Vec Ideal S64x1 .f32) (ix2 a 0) = (data V c).DOS (Spec.qrow (ch t) a) := by
  rw [data, Spec.qrow, ch]
  blk_point [iblk0, idx t]
theorem b4 (c : Dev nD) (t : Fin cfg0.N) (a : Fin 256) (b : Fin 1536) :
    (iblk0 V c 4 t : Vec Ideal S256x1536 .fp8e4m3) (ix2 a b) = (data V c).EM (Spec.krow (ch t) a) b := by
  rw [data, Spec.krow, ch]
  blk_point [iblk0, idx t]
theorem b5 (c : Dev nD) (t : Fin cfg0.N) (a : Fin 256) :
    (iblk0 V c 5 t : Vec Ideal S256x1 .f32) (ix2 a 0) = (data V c).ES (Spec.krow (ch t) a) := by
  rw [data, Spec.krow, ch]
  blk_point [iblk0, idx t]
theorem b6 (c : Dev nD) (t : Fin cfg0.N) (a : Fin 1536) (b : Fin 4096) :
    (FloatOps.sitofp .bf16 ((iblk0 V c 6 t : Vec Ideal S1536x4096 .i8) (ix2 a b)) : Ideal .bf16) = (data V c).WK a b := by
  have h : (iblk0 V c 6 t : Vec Ideal S1536x4096 .i8) (ix2 a b) = (V c main_arg6 : Vec Ideal S1536x4096 .i8) (ix2 a b) := by
    blk_point [iblk0, idx t]
  rw [h]
  rfl
theorem b7 (c : Dev nD) (t : Fin cfg0.N) (a : Fin 1536) (b : Fin 4096) :
    (FloatOps.sitofp .bf16 ((iblk0 V c 7 t : Vec Ideal S1536x4096 .i8) (ix2 a b)) : Ideal .bf16) = (data V c).WV a b := by
  have h : (iblk0 V c 7 t : Vec Ideal S1536x4096 .i8) (ix2 a b) = (V c main_arg7 : Vec Ideal S1536x4096 .i8) (ix2 a b) := by
    blk_point [iblk0, idx t]
  rw [h]
  rfl
theorem b8 (c : Dev nD) (t : Fin cfg0.N) (b : Fin 4096) :
    (iblk0 V c 8 t : Vec Ideal S1x4096 .f32) (ix2 0 b) = (data V c).WKS b := by
  rw [data]
  blk_point [iblk0, idx t]
theorem b9 (c : Dev nD) (t : Fin cfg0.N) (b : Fin 4096) :
    (iblk0 V c 9 t : Vec Ideal S1x4096 .f32) (ix2 0 b) = (data V c).WVS b := by
  rw [data]
  blk_point [iblk0, idx t]

/-- The queries' gradient as one array. -/
def GQ (D : Spec.Data) : Vec Ideal S12288x4096 .bf16 := fun y =>
  D.dq ⟨(y 0).val / 64, by have : (y 0).val < 12288 := (y 0).isLt; omega⟩ (hd (y 1)) ⟨(y 0).val % 64, by omega⟩ (dm (y 1))

theorem GQ_at (D : Spec.Data) (t : Fin 192) (i : Fin 64) (n : Fin 4096) :
    GQ D (ix2 (Spec.qrow t i) n) = D.dq t (hd n) i (dm n) := by
  have h1 : (⟨(64 * t.val + i.val) / 64, by omega⟩ : Fin 192) = t := Fin.ext (by show (64 * t.val + i.val) / 64 = t.val; omega)
  have h2 : (⟨(64 * t.val + i.val) % 64, by omega⟩ : Fin 64) = i := Fin.ext (by show (64 * t.val + i.val) % 64 = i.val; omega)
  show D.dq ⟨(64 * t.val + i.val) / 64, _⟩ (hd n) ⟨(64 * t.val + i.val) % 64, _⟩ (dm n) = _
  rw [h1, h2]

theorem point_dq (c : Dev nD) (t : Fin cfg0.N) (y) :
    (outsAt0 V c t).1 y = GQ (data V c) (((cfg0.win 10).blk t).view.emb y) := by
  rw [out_dq]
  idx_vars y
  have he : ∀ X : Vec Ideal S12288x4096 .bf16, X (((cfg0.win 10).blk t).view.emb (ix2 y0 y1)) = X (ix2 (Spec.qrow (ch t) y0) y1) := by
    intro X
    rw [Spec.qrow, ch]
    blk_point [idx t]
  refine Eq.trans ?_ (he _).symm
  rw [GQ_at]
  exact Gdq_eq (data V c) (ch t) (b0 V c t) (b1 V c t) (b2 V c t) (b3 V c t) (b4 V c t) (b5 V c t) (b6 V c t) (b7 V c t) (b8 V c t) (b9 V c t) y0 y1

/-- The array of the queries' gradient the first stage leaves. -/
theorem final_dq (c : Dev nD) : (dat0 V c).arrAt 10 cfg0.N = GQ (data V c) := by
  refine (dat0 V c).arrAt_eq_of_covers 10 _ (by decide +kernel) fun t _ y => ?_
  blk_simp
  rw [after0_10]
  exact point_dq V c t y

/-- The keys' gradient as one array. -/
def GK (D : Spec.Data) : Vec Ideal S49152x4096 .bf16 := fun y =>
  D.dk ⟨(y 0).val / 256, by have : (y 0).val < 49152 := (y 0).isLt; omega⟩ (hd (y 1)) ⟨(y 0).val % 256, by omega⟩ (dm (y 1))

theorem GK_at (D : Spec.Data) (t : Fin 192) (i : Fin 256) (n : Fin 4096) :
    GK D (ix2 (Spec.krow t i) n) = D.dk t (hd n) i (dm n) := by
  have h1 : (⟨(256 * t.val + i.val) / 256, by omega⟩ : Fin 192) = t := Fin.ext (by show (256 * t.val + i.val) / 256 = t.val; omega)
  have h2 : (⟨(256 * t.val + i.val) % 256, by omega⟩ : Fin 256) = i := Fin.ext (by show (256 * t.val + i.val) % 256 = i.val; omega)
  show D.dk ⟨(256 * t.val + i.val) / 256, _⟩ (hd n) ⟨(256 * t.val + i.val) % 256, _⟩ (dm n) = _
  rw [h1, h2]

theorem point_dk (c : Dev nD) (t : Fin cfg0.N) (y) :
    (outsAt0 V c t).2.1 y = GK (data V c) (((cfg0.win 11).blk t).view.emb y) := by
  rw [out_dk]
  idx_vars y
  have he : ∀ X : Vec Ideal S49152x4096 .bf16, X (((cfg0.win 11).blk t).view.emb (ix2 y0 y1)) = X (ix2 (Spec.krow (ch t) y0) y1) := by
    intro X
    rw [Spec.krow, ch]
    blk_point [idx t]
  refine Eq.trans ?_ (he _).symm
  rw [GK_at]
  exact Gdk_eq (data V c) (ch t) (b0 V c t) (b1 V c t) (b2 V c t) (b3 V c t) (b4 V c t) (b5 V c t) (b6 V c t) (b7 V c t) (b8 V c t) (b9 V c t) y0 y1

/-- The array of the keys' gradient the first stage leaves. -/
theorem final_dk (c : Dev nD) : (dat0 V c).arrAt 11 cfg0.N = GK (data V c) := by
  refine (dat0 V c).arrAt_eq_of_covers 11 _ (by decide +kernel) fun t _ y => ?_
  blk_simp
  rw [after0_11]
  exact point_dk V c t y

/-- The values' gradient as one array. -/
def GV (D : Spec.Data) : Vec Ideal S49152x4096 .bf16 := fun y =>
  D.dv ⟨(y 0).val / 256, by have : (y 0).val < 49152 := (y 0).isLt; omega⟩ (hd (y 1)) ⟨(y 0).val % 256, by omega⟩ (dm (y 1))

theorem GV_at (D : Spec.Data) (t : Fin 192) (i : Fin 256) (n : Fin 4096) :
    GV D (ix2 (Spec.krow t i) n) = D.dv t (hd n) i (dm n) := by
  have h1 : (⟨(256 * t.val + i.val) / 256, by omega⟩ : Fin 192) = t := Fin.ext (by show (256 * t.val + i.val) / 256 = t.val; omega)
  have h2 : (⟨(256 * t.val + i.val) % 256, by omega⟩ : Fin 256) = i := Fin.ext (by show (256 * t.val + i.val) % 256 = i.val; omega)
  show D.dv ⟨(256 * t.val + i.val) / 256, _⟩ (hd n) ⟨(256 * t.val + i.val) % 256, _⟩ (dm n) = _
  rw [h1, h2]

theorem point_dv (c : Dev nD) (t : Fin cfg0.N) (y) :
    (outsAt0 V c t).2.2 y = GV (data V c) (((cfg0.win 12).blk t).view.emb y) := by
  rw [out_dv]
  idx_vars y
  have he : ∀ X : Vec Ideal S49152x4096 .bf16, X (((cfg0.win 12).blk t).view.emb (ix2 y0 y1)) = X (ix2 (Spec.krow (ch t) y0) y1) := by
    intro X
    rw [Spec.krow, ch]
    blk_point [idx t]
  refine Eq.trans ?_ (he _).symm
  rw [GV_at]
  exact Gdv_eq (data V c) (ch t) (b0 V c t) (b1 V c t) (b2 V c t) (b3 V c t) (b4 V c t) (b5 V c t) (b6 V c t) (b8 V c t) y0 y1

/-- The array of the values' gradient the first stage leaves. -/
theorem final_dv (c : Dev nD) : (dat0 V c).arrAt 12 cfg0.N = GV (data V c) := by
  refine (dat0 V c).arrAt_eq_of_covers 12 _ (by decide +kernel) fun t _ y => ?_
  blk_simp
  rw [after0_12]
  exact point_dv V c t y

end Cert.KernelIdeal.Attn

end
-- ==== Proof.Stages.lean ====
/- The stores of the second and third stage, on blocks, read at an index. -/
module

public import proofs.«01_k».proof.Proof.Gen.KernelIdeal.Skeleton
public import Idealize.ShloMosaic.Lib.Pointwise

@[expose] public section

set_option maxRecDepth 16384

noncomputable section

namespace Cert.KernelIdeal.Stages

open Cert.KernelIdeal Cert.KernelIdeal.Gen Idealize.ShloMosaic

/-- The block of the embeddings' gradient: the keys' gradient against the dequantized key weights, plus the same of the
    values. -/
theorem demb_apply (wk : Vec Ideal S1536x4096 .i8) (wks : Vec Ideal S1x4096 .f32) (wv : Vec Ideal S1536x4096 .i8)
    (wvs : Vec Ideal S1x4096 .f32) (dk dv : Vec Ideal S512x4096 .bf16) (r : Fin 512) (e : Fin 1536) :
    k1_pay1 wk wks wv wvs dk dv (ix2 r e)
      = (∑ n : Fin 4096, dk (ix2 r n) * ((FloatOps.sitofp .bf16 (wk (ix2 e n)) : Ideal .bf16) * wks (ix2 0 n)))
        + ∑ n : Fin 4096, dv (ix2 r n) * ((FloatOps.sitofp .bf16 (wv (ix2 e n)) : Ideal .bf16) * wvs (ix2 0 n)) := by
  pointwise [k1_pay1]

/-- The cleared block of the key weights' gradient is zero. -/
theorem dwk_zero (j : S1536x512.Idx) : (k2_pay2 (F := Ideal)) j = 0 := by pointwise [k2_pay2]

/-- The cleared block of the value weights' gradient is zero. -/
theorem dwv_zero (j : S1536x512.Idx) : (k2_pay3 (F := Ideal)) j = 0 := by pointwise [k2_pay3]

/-- One accumulation step of the key weights' gradient: 2048 keys' contributions added to what the block held. -/
theorem dwk_apply (acc : Vec Ideal S1536x512 .f32) (em : Vec Ideal S2048x1536 .fp8e4m3) (es : Vec Ideal S2048x1 .f32)
    (g : Vec Ideal S2048x512 .bf16) (j : S1536x512.Idx) :
    k2_pay4 acc (k2_pay1 em es) g j
      = acc j + ∑ r : Fin 2048, (em (ix2 r (j 0)) * es (ix2 r 0)) * g (ix2 r (j 1)) := by
  pointwise [k2_pay4, k2_pay1]

/-- The same step of the value weights' gradient. -/
theorem dwv_apply (acc : Vec Ideal S1536x512 .f32) (em : Vec Ideal S2048x1536 .fp8e4m3) (es : Vec Ideal S2048x1 .f32)
    (g : Vec Ideal S2048x512 .bf16) (j : S1536x512.Idx) :
    k2_pay5 acc (k2_pay1 em es) g j
      = acc j + ∑ r : Fin 2048, (em (ix2 r (j 0)) * es (ix2 r 0)) * g (ix2 r (j 1)) := by
  pointwise [k2_pay5, k2_pay1]

end Cert.KernelIdeal.Stages

end
-- ==== Proof.Demb.lean ====
/- The second stage: the array of the embeddings' gradient it leaves, as sums over the columns of the two gradients it
   reads. -/
module

public import proofs.«01_k».proof.Proof.Gen.KernelIdeal.Frame
public import proofs.«01_k».proof.Proof.Stages
public import Idealize.ShloMosaic.Lib.Pipeline.ValueKit

@[expose] public section

set_option maxRecDepth 16384

noncomputable section

namespace Cert.KernelIdeal.Demb

open Cert.KernelIdeal Cert.KernelIdeal.Gen Idealize.ShloMosaic Idealize.ShloMosaic.TcCoe Idealize.SL.Sem
open Idealize.ShloMosaic.Pipeline (Dat)

/-- The embeddings' gradient, from the gradients of keys and values, the weights and their scales. -/
def G (dk dv : FVec Ideal S49152x4096 .bf16) (wk wv : Vec Ideal S1536x4096 .i8) (wks wvs : FVec Ideal S1x4096 .f32) :
    FVec Ideal S49152x1536 .bf16 := fun y =>
  (∑ n : Fin 4096, dk (ix2 (y 0) n) * ((FloatOps.sitofp .bf16 (wk (ix2 (y 1) n)) : Ideal .bf16) * wks (ix2 0 n)))
    + ∑ n : Fin 4096, dv (ix2 (y 0) n) * ((FloatOps.sitofp .bf16 (wv (ix2 (y 1) n)) : Ideal .bf16) * wvs (ix2 0 n))

variable (V : (c : Dev nD) → (b : Ref sig .tc) → Buf (Elt Ideal) ((c : Thread nD τ).loc b))

theorem idx : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![t.val, 0] :=
  (by decide +kernel : ∀ t : Fin grid1.N, _)

/-- What a grid point stores is that gradient at the rows of its block. -/
theorem point (c : Dev nD) (t : Fin cfg1.N) (y) :
    k1_pay1 (iblk1 V c 2 t) (iblk1 V c 4 t) (iblk1 V c 3 t) (iblk1 V c 5 t) (iblk1 V c 0 t) (iblk1 V c 1 t) y
    = G (V c main_v8_1) (V c main_v8_2) (V c main_arg6) (V c main_arg7) (V c main_v6) (V c main_v7)
        (((cfg1.win 6).blk t).view.emb y) := by
  idx_vars y
  rw [Stages.demb_apply, G]
  blk_point [iblk1, idx t]

/-- The array the second stage leaves. -/
theorem final (c : Dev nD) : (dat1 V c).arrAt 6 cfg1.N
    = G (V c main_v8_1) (V c main_v8_2) (V c main_arg6) (V c main_arg7) (V c main_v6) (V c main_v7) := by
  refine (dat1 V c).arrAt_eq_of_covers 6 _ (by decide +kernel) fun t _ y => ?_
  blk_simp
  rw [after1_6]; frame_out
  exact point V c t y

end Cert.KernelIdeal.Demb

end
-- ==== Proof.Dw.lean ====
/- The third stage: the arrays of the two weights' gradients it leaves, as sums over all keys. -/
module

public import proofs.«01_k».proof.Proof.Gen.KernelIdeal.Frame
public import proofs.«01_k».proof.Proof.Stages
public import Idealize.ShloMosaic.Lib.Pipeline.ValueKit

@[expose] public section

set_option maxRecDepth 16384

noncomputable section

namespace Cert.KernelIdeal.Dw

open Cert.KernelIdeal Cert.KernelIdeal.Gen Idealize.ShloMosaic Idealize.ShloMosaic.TcCoe Idealize.SL.Sem
open Idealize.ShloMosaic.Pipeline (Dat)

/-- A weight's gradient, from the embeddings, their scales and the gradient of what the weight projects to. -/
def G (em : FVec Ideal S49152x1536 .fp8e4m3) (es : FVec Ideal S49152x1 .f32) (g : FVec Ideal S49152x4096 .bf16) :
    FVec Ideal S1536x4096 .f32 := fun y =>
  ∑ r : Fin 49152, (em (ix2 r (y 0)) * es (ix2 r 0)) * g (ix2 r (y 1))

variable (V : (c : Dev nD) → (b : Ref sig .tc) → Buf (Elt Ideal) ((c : Thread nD τ).loc b))

theorem idx : ∀ t : Fin cfg2.N, win2_0.index t = ![t.val % 24, 0] ∧ win2_1.index t = ![t.val % 24, 0]
    ∧ win2_2.index t = ![t.val % 24, t.val / 24] ∧ win2_3.index t = ![t.val % 24, t.val / 24]
    ∧ win2_4.index t = ![0, t.val / 24] ∧ win2_5.index t = ![0, t.val / 24] :=
  (by decide +kernel : ∀ t : Fin grid2.N, _)

/-- The key weights' gradient the third stage leaves. -/
theorem final_k (c : Dev nD) : (dat2 V c).arrAt 4 cfg2.N = G (V c main_v4) (V c main_v5) (V c main_v8_1) := by
  refine (dat2 V c).arrAt_eq_of_covers 4 _ (by decide +kernel) fun t hf y => ?_
  blk_simp
  rw [after2_4, Pipeline.eq_sum_fin_of_reset_step_apply_of_flush (fun n h => (outsAt2 V c n h).1) 24 (fun _ => 0) _
    (fun t h j => by rw [outsAt2_A V c t h]; frame_out; rw [Stages.dwk_apply, Stages.dwk_zero])
    (fun t h j => by rw [outsAt2_B V c t h]; frame_out; rw [Stages.dwk_apply])
    t ((flush2_4 t).mp hf) _, zero_add]
  refine Fin.sum_mul_add_congr fun s k hl => ?_
  blk_point [iblk2, idx t, idx ⟨_, Pipeline.run_point_lt_of_flush t ((flush2_4 t).mp hf) s⟩]

/-- The value weights' gradient the third stage leaves. -/
theorem final_v (c : Dev nD) : (dat2 V c).arrAt 5 cfg2.N = G (V c main_v4) (V c main_v5) (V c main_v8_2) := by
  refine (dat2 V c).arrAt_eq_of_covers 5 _ (by decide +kernel) fun t hf y => ?_
  blk_simp
  rw [after2_5, Pipeline.eq_sum_fin_of_reset_step_apply_of_flush (fun n h => (outsAt2 V c n h).2) 24 (fun _ => 0) _
    (fun t h j => by rw [outsAt2_A V c t h]; frame_out; rw [Stages.dwv_apply, Stages.dwv_zero])
    (fun t h j => by rw [outsAt2_B V c t h]; frame_out; rw [Stages.dwv_apply])
    t ((flush2_5 t).mp hf) _, zero_add]
  refine Fin.sum_mul_add_congr fun s k hl => ?_
  blk_point [iblk2, idx t, idx ⟨_, Pipeline.run_point_lt_of_flush t ((flush2_5 t).mp hf) s⟩]

end Cert.KernelIdeal.Dw

end
-- ==== Proof.Results.lean ====
/- The kernel's four results, read at an index, as the problem's gradients of the arrays its first stage reads. -/
module

public import proofs.«01_k».proof.Proof.Run
public import proofs.«01_k».proof.Proof.AttnFinal
public import proofs.«01_k».proof.Proof.Demb
public import proofs.«01_k».proof.Proof.Dw

@[expose] public section

set_option maxRecDepth 16384

noncomputable section

namespace Cert.KernelIdeal.Results

open Cert.KernelIdeal Cert.KernelIdeal.Gen Cert.KernelIdeal.Attn
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem cast_q (X : Vec Ideal S12288x4096 .bf16) (b : Fin 6) (n : Fin 2048) (h : Fin 16) (d : Fin 256) :
    shapeCast S6x2048x16x256 X shapeCasts_S12288x4096_S6x2048x16x256 (ix4 b n h d)
      = X (ix2 ⟨b.val * 2048 + n.val, by omega⟩ ⟨h.val * 256 + d.val, by omega⟩) := by
  pointwise []

theorem cast_e (X : Vec Ideal S49152x1536 .bf16) (b : Fin 6) (c : Fin 32) (u : Fin 2) (j : Fin 128) (e : Fin 1536) :
    shapeCast S6x32x2x128x1536 X shapeCasts_S49152x1536_S6x32x2x128x1536 (ix5 b c u j e)
      = X (ix2 ⟨b.val * 8192 + (c.val * 256 + u.val * 128 + j.val), by omega⟩ e) := by
  pointwise []
  blk_point

theorem GQ_cast (D' : Spec.Data) (b : Fin 6) (n : Fin 2048) (h : Fin 16) (d : Fin 256) :
    GQ D' (ix2 ⟨b.val * 2048 + n.val, by omega⟩ ⟨h.val * 256 + d.val, by omega⟩)
      = D'.dq ⟨32 * b.val + n.val / 64, by omega⟩ h ⟨n.val % 64, by omega⟩ d := by
  have ht : (⟨32 * b.val + n.val / 64, by omega⟩ : Fin 192) = ⟨(b.val * 2048 + n.val) / 64, by omega⟩ :=
    Fin.ext (by show 32 * b.val + n.val / 64 = (b.val * 2048 + n.val) / 64; omega)
  have hi : (⟨n.val % 64, by omega⟩ : Fin 64) = ⟨(b.val * 2048 + n.val) % 64, by omega⟩ :=
    Fin.ext (by show n.val % 64 = (b.val * 2048 + n.val) % 64; omega)
  have hh : Blocks.hd ⟨h.val * 256 + d.val, by omega⟩ = h := Fin.ext (by show (h.val * 256 + d.val) / 256 = h.val; omega)
  have hd : Blocks.dm ⟨h.val * 256 + d.val, by omega⟩ = d := Fin.ext (by show (h.val * 256 + d.val) % 256 = d.val; omega)
  show D'.dq ⟨(b.val * 2048 + n.val) / 64, _⟩ (Blocks.hd ⟨h.val * 256 + d.val, _⟩) ⟨(b.val * 2048 + n.val) % 64, _⟩
      (Blocks.dm ⟨h.val * 256 + d.val, _⟩) = _
  rw [hh, hd, ht, hi]

/-- The queries' gradient. -/
theorem dq_result (b : Fin 6) (n : Fin 2048) (h : Fin 16) (d : Fin 256) :
    (W5 m ρ c (Proc.devRef .tc main_v11) : Vec Ideal S6x2048x16x256 .bf16) (ix4 b n h d)
      = (data (V1 m ρ) c).dq ⟨32 * b.val + n.val / 64, by omega⟩ h ⟨n.val % 64, by omega⟩ d := by
  rw [Run.v11_eq, final_dq]
  exact (cast_q _ b n h d).trans (GQ_cast _ b n h d)

/-- The second stage's array, from matrices. -/
theorem demb_of (D' : Spec.Data) (wk wv : Vec Ideal S1536x4096 .i8) (wks wvs : Vec Ideal S1x4096 .f32)
    (h6 : ∀ a b, (FloatOps.sitofp .bf16 (wk (ix2 a b)) : Ideal .bf16) = D'.WK a b)
    (h7 : ∀ a b, (FloatOps.sitofp .bf16 (wv (ix2 a b)) : Ideal .bf16) = D'.WV a b)
    (h8 : ∀ b, wks (ix2 0 b) = D'.WKS b) (h9 : ∀ b, wvs (ix2 0 b) = D'.WVS b) (r : Fin 49152) (e : Fin 1536) :
    Demb.G (GK D') (GV D') wk wv wks wvs (ix2 r e) = D'.demb r e := by
  show (∑ n : Fin 4096, GK D' (ix2 r n) * ((FloatOps.sitofp .bf16 (wk (ix2 e n)) : Ideal .bf16) * wks (ix2 0 n)))
    + (∑ n : Fin 4096, GV D' (ix2 r n) * ((FloatOps.sitofp .bf16 (wv (ix2 e n)) : Ideal .bf16) * wvs (ix2 0 n))) = _
  simp only [h6, h7, h8, h9]
  rfl

/-- The embeddings' gradient. -/
theorem demb_result (b : Fin 6) (k : Fin 32) (u : Fin 2) (j : Fin 128) (e : Fin 1536) :
    (W5 m ρ c (Proc.devRef .tc main_v12) : Vec Ideal S6x32x2x128x1536 .bf16) (ix5 b k u j e)
      = (data (V1 m ρ) c).demb ⟨b.val * 8192 + (k.val * 256 + u.val * 128 + j.val), by omega⟩ e := by
  rw [Run.v12_eq, Demb.final, Run.V2_dk, Run.V2_dv, final_dk, final_dv,
    show V2 m ρ c main_arg6 = V1 m ρ c main_arg6 from W2_of m ρ c main_arg6 (by decide),
    show V2 m ρ c main_arg7 = V1 m ρ c main_arg7 from W2_of m ρ c main_arg7 (by decide),
    show V2 m ρ c main_v6 = V1 m ρ c main_v6 from W2_of m ρ c main_v6 (by decide),
    show V2 m ρ c main_v7 = V1 m ρ c main_v7 from W2_of m ρ c main_v7 (by decide)]
  exact (cast_e _ b k u j e).trans (demb_of _ _ _ _ _ (fun _ _ => rfl) (fun _ _ => rfl) (fun _ => rfl) (fun _ => rfl) _ e)

/-- The third stage's arrays, from matrices. -/
theorem dw_of (D' : Spec.Data) (em : Vec Ideal S49152x1536 .fp8e4m3) (es : Vec Ideal S49152x1 .f32) (g : Vec Ideal S49152x4096 .bf16)
    (f : Fin 49152 → Fin 4096 → EReal) (h4 : ∀ a b, em (ix2 a b) = D'.EM a b) (h5 : ∀ a, es (ix2 a 0) = D'.ES a)
    (hg : ∀ a b, g (ix2 a b) = f a b) (e : Fin 1536) (n : Fin 4096) : Dw.G em es g (ix2 e n) = D'.dw f e n := by
  show (∑ r : Fin 49152, (em (ix2 r e) * es (ix2 r 0)) * g (ix2 r n)) = _
  simp only [h4, h5, hg]
  rfl

theorem V3_emb : V3 m ρ c main_v4 = V1 m ρ c main_v4 := (W3_of m ρ c main_v4 (by decide)).trans (W2_of m ρ c main_v4 (by decide))
theorem V3_es : V3 m ρ c main_v5 = V1 m ρ c main_v5 := (W3_of m ρ c main_v5 (by decide)).trans (W2_of m ρ c main_v5 (by decide))

/-- The key weights' gradient. -/
theorem dwk_result (e : Fin 1536) (n : Fin 4096) :
    (W5 m ρ c (Proc.devRef .tc main_v10_0) : Vec Ideal S1536x4096 .f32) (ix2 e n)
      = (data (V1 m ρ) c).dw (Spec.Data.flat (data (V1 m ρ) c).dk) e n := by
  rw [Run.v10_0_eq, Dw.final_k, Run.V3_dk, final_dk, V3_emb, V3_es]
  exact dw_of _ _ _ _ _ (fun _ _ => rfl) (fun _ => rfl) (fun _ _ => rfl) e n

/-- The value weights' gradient. -/
theorem dwv_result (e : Fin 1536) (n : Fin 4096) :
    (W5 m ρ c (Proc.devRef .tc main_v10_1) : Vec Ideal S1536x4096 .f32) (ix2 e n)
      = (data (V1 m ρ) c).dw (Spec.Data.flat (data (V1 m ρ) c).dv) e n := by
  rw [Run.v10_1_eq, Dw.final_v, Run.V3_dv, final_dv, V3_emb, V3_es]
  exact dw_of _ _ _ _ _ (fun _ _ => rfl) (fun _ => rfl) (fun _ _ => rfl) e n

/-- The queries' gradient as the kernel leaves it. -/
def out_dq : Buf (Elt Ideal) ((c : Thread nD τ).loc main_v11) := W5 m ρ c (Proc.devRef .tc main_v11)
/-- The embeddings' gradient as the kernel leaves it. -/
def out_demb : Buf (Elt Ideal) ((c : Thread nD τ).loc main_v12) := W5 m ρ c (Proc.devRef .tc main_v12)
/-- The key weights' gradient as the kernel leaves it. -/
def out_dwk : Buf (Elt Ideal) ((c : Thread nD τ).loc main_v10_0) := W5 m ρ c (Proc.devRef .tc main_v10_0)
/-- The value weights' gradient as the kernel leaves it. -/
def out_dwv : Buf (Elt Ideal) ((c : Thread nD τ).loc main_v10_1) := W5 m ρ c (Proc.devRef .tc main_v10_1)

/-- Every run ends with the four results so named and the arguments unchanged. -/
theorem run : θ_run defs (onTc (τ := τ) (main (F := Ideal))) ⟨m, fun _ => 0, ρ⟩ (fun r => ∀ c : Dev nD,
      r.2.mem ((c.tc : Thread nD τ).loc main_v11) = out_dq m ρ c
      ∧ r.2.mem ((c.tc : Thread nD τ).loc main_v12) = out_demb m ρ c
      ∧ r.2.mem ((c.tc : Thread nD τ).loc main_v10_0) = out_dwk m ρ c
      ∧ r.2.mem ((c.tc : Thread nD τ).loc main_v10_1) = out_dwv m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Run.run m ρ

end Cert.KernelIdeal.Results

end
-- ==== Proof.RefRead.lean ====
/- The reference's intermediate arrays, read at an index, as the problem's quantities. -/
module

public import proofs.«01_k».proof.Proof.Gen.ReferenceIdeal.Read
public import proofs.«01_k».proof.Proof.Spec
public import Idealize.ShloMosaic.Lib.Pipeline.ValueKit

@[expose] public section

set_option maxRecDepth 16384

noncomputable section

namespace Cert.ReferenceIdeal.Math

open Cert.ReferenceIdeal Cert.ReferenceIdeal.Gen Cert.ReferenceIdeal.Read Idealize.ShloMosaic Idealize.ShloMosaic.TcCoe

variable (x1 : Vec Ideal S6x2048x16 .f32) (x3 : Vec Ideal S6x2048 .f32) (x5 : Vec Ideal S6x32x2x128 .f32)
  (x8 x9 : Vec Ideal S4096 .f32) (r0 : Vec Ideal S6x2048x16x256 .bf16) (r1 : Vec Ideal S6x2048x4096 .bf16)
  (r2 : Vec Ideal S6x32x2x128x1536 .bf16) (r3 r4 : Vec Ideal S1536x4096 .bf16)

/-- The reference's operands as the problem's matrices. -/
def data : Spec.Data where
  Q r n := r0 (ix4 (⟨r.val / 2048, by omega⟩ : Fin 6) (⟨r.val % 2048, by omega⟩ : Fin 2048) (⟨n.val / 256, by omega⟩ : Fin 16) (⟨n.val % 256, by omega⟩ : Fin 256))
  QS r h := x1 (ix3 (⟨r.val / 2048, by omega⟩ : Fin 6) (⟨r.val % 2048, by omega⟩ : Fin 2048) h)
  DO r n := r1 (ix3 (⟨r.val / 2048, by omega⟩ : Fin 6) (⟨r.val % 2048, by omega⟩ : Fin 2048) n)
  DOS r := x3 (ix2 (⟨r.val / 2048, by omega⟩ : Fin 6) (⟨r.val % 2048, by omega⟩ : Fin 2048))
  EM r e := r2 (ix5 (⟨r.val / 8192, by omega⟩ : Fin 6) (⟨r.val / 256 % 32, by omega⟩ : Fin 32) (⟨r.val / 128 % 2, by omega⟩ : Fin 2) (⟨r.val % 128, by omega⟩ : Fin 128) e)
  ES r := x5 (ix4 (⟨r.val / 8192, by omega⟩ : Fin 6) (⟨r.val / 256 % 32, by omega⟩ : Fin 32) (⟨r.val / 128 % 2, by omega⟩ : Fin 2) (⟨r.val % 128, by omega⟩ : Fin 128))
  WK e n := r3 (ix2 e n)
  WV e n := r4 (ix2 e n)
  WKS n := x8 (ix1 n)
  WVS n := x9 (ix1 n)

/-- Chunk `c` of sequence `b`. -/
def ch (b : Fin 6) (c : Fin 32) : Fin 192 := ⟨32 * b.val + c.val, by omega⟩

/-- The queries. -/
theorem q_at (b : Fin 6) (c : Fin 32) (i : Fin 64) (h : Fin 16) (d : Fin 256) :
    val_main_v29 (F := Ideal) r0 (ix5 b c i h d) = (data x1 x3 x5 x8 x9 r0 r1 r2 r3 r4).q (ch b c) h i d := by
  pointwise [val_main_v29, Spec.Data.q, Spec.qrow, Spec.hcol, ch, data]
  blk_point

/-- Their scales. -/
theorem qs_at (b : Fin 6) (c : Fin 32) (i : Fin 64) (h : Fin 16) :
    val_main_v30 (F := Ideal) x1 (ix4 b c i h) = (data x1 x3 x5 x8 x9 r0 r1 r2 r3 r4).qs (ch b c) h i := by
  pointwise [val_main_v30, Spec.Data.qs, Spec.qrow, ch, data]
  blk_point

/-- The output gradients. -/
theorem o_at (b : Fin 6) (c : Fin 32) (i : Fin 64) (h : Fin 16) (d : Fin 256) :
    val_main_v31 (F := Ideal) r1 (ix5 b c i h d) = (data x1 x3 x5 x8 x9 r0 r1 r2 r3 r4).o (ch b c) h i d := by
  pointwise [val_main_v31, Spec.Data.o, Spec.qrow, Spec.hcol, ch, data]
  blk_point

/-- Their scales. -/
theorem os_at (b : Fin 6) (c : Fin 32) (i : Fin 64) :
    val_main_v32 (F := Ideal) x3 (ix3 b c i) = (data x1 x3 x5 x8 x9 r0 r1 r2 r3 r4).os (ch b c) i := by
  pointwise [val_main_v32, Spec.Data.os, Spec.qrow, ch, data]
  blk_point

/-- The projected keys. -/
theorem k_at (b : Fin 6) (c : Fin 32) (j : Fin 256) (h : Fin 16) (d : Fin 256) :
    val_main_v19 (F := Ideal) x5 x8 r2 r3 (ix5 b c j h d) = (data x1 x3 x5 x8 x9 r0 r1 r2 r3 r4).k (ch b c) h j d := by
  pointwise [val_main_v9, val_main_v10, val_main_v11, val_main_v12, val_main_v13, val_main_v14, val_main_v15, val_main_v16, val_main_v17, val_main_v18, val_main_v19, Spec.Data.k, Spec.proj, Spec.krow, Spec.hcol, ch, data]
  blk_point

/-- The projected values. -/
theorem v_at (b : Fin 6) (c : Fin 32) (j : Fin 256) (h : Fin 16) (d : Fin 256) :
    val_main_v28 (F := Ideal) x5 x9 r2 r4 (ix5 b c j h d) = (data x1 x3 x5 x8 x9 r0 r1 r2 r3 r4).v (ch b c) h j d := by
  pointwise [val_main_v9, val_main_v10, val_main_v20, val_main_v21, val_main_v22, val_main_v23, val_main_v24, val_main_v25, val_main_v26, val_main_v27, val_main_v28, Spec.Data.v, Spec.proj, Spec.krow, Spec.hcol, ch, data]
  blk_point

/-- The scores. -/
theorem score_at (b : Fin 6) (c : Fin 32) (h : Fin 16) (i : Fin 64) (j : Fin 256) :
    val_main_v39 (F := Ideal) x1 x5 x8 r0 r2 r3 (ix5 b c h i j) = Spec.score ((data x1 x3 x5 x8 x9 r0 r1 r2 r3 r4).q (ch b c) h) ((data x1 x3 x5 x8 x9 r0 r1 r2 r3 r4).qs (ch b c) h) ((data x1 x3 x5 x8 x9 r0 r1 r2 r3 r4).k (ch b c) h) i j := by
  simp only [Spec.score, ← q_at x1 x3 x5 x8 x9 r0 r1 r2 r3 r4, ← qs_at x1 x3 x5 x8 x9 r0 r1 r2 r3 r4, ← k_at x1 x3 x5 x8 x9 r0 r1 r2 r3 r4]
  pointwise [val_main_v33, val_main_v34, val_main_v35, val_main_v36, val_main_v37, val_main_v38, val_main_v39, val_main_cst, Spec.scale]

/-- The probabilities. -/
theorem prob_at (b : Fin 6) (c : Fin 32) (h : Fin 16) (i : Fin 64) (j : Fin 256) :
    val_main_v48 (F := Ideal) x1 x5 x8 r0 r2 r3 (ix5 b c h i j) = Spec.prob ((data x1 x3 x5 x8 x9 r0 r1 r2 r3 r4).q (ch b c) h) ((data x1 x3 x5 x8 x9 r0 r1 r2 r3 r4).qs (ch b c) h) ((data x1 x3 x5 x8 x9 r0 r1 r2 r3 r4).k (ch b c) h) i j := by
  simp only [Spec.prob, Spec.expo, Spec.top, ← score_at x1 x3 x5 x8 x9 r0 r1 r2 r3 r4]
  pointwise [val_main_v40, val_main_v41, val_main_v42, val_main_v43, val_main_v44, val_main_v45, val_main_v46, val_main_v47, val_main_v48, val_main_cst_0, val_main_cst_1, Spec.bot]

/-- The gradients of the probabilities. -/
theorem dprob_at (b : Fin 6) (c : Fin 32) (h : Fin 16) (i : Fin 64) (j : Fin 256) :
    val_main_v52 (F := Ideal) x3 x5 x9 r1 r2 r4 (ix5 b c h i j) = Spec.dprob ((data x1 x3 x5 x8 x9 r0 r1 r2 r3 r4).o (ch b c) h) ((data x1 x3 x5 x8 x9 r0 r1 r2 r3 r4).os (ch b c)) ((data x1 x3 x5 x8 x9 r0 r1 r2 r3 r4).v (ch b c) h) i j := by
  simp only [Spec.dprob, ← o_at x1 x3 x5 x8 x9 r0 r1 r2 r3 r4, ← os_at x1 x3 x5 x8 x9 r0 r1 r2 r3 r4, ← v_at x1 x3 x5 x8 x9 r0 r1 r2 r3 r4]
  pointwise [val_main_v49, val_main_v50, val_main_v51, val_main_v52]

/-- The gradients of the scores. -/
theorem dscore_at (b : Fin 6) (c : Fin 32) (h : Fin 16) (i : Fin 64) (j : Fin 256) :
    val_main_v60 (F := Ideal) x1 x3 x5 x8 x9 r0 r1 r2 r3 r4 (ix5 b c h i j) = Spec.dscore ((data x1 x3 x5 x8 x9 r0 r1 r2 r3 r4).q (ch b c) h) ((data x1 x3 x5 x8 x9 r0 r1 r2 r3 r4).o (ch b c) h) ((data x1 x3 x5 x8 x9 r0 r1 r2 r3 r4).qs (ch b c) h) ((data x1 x3 x5 x8 x9 r0 r1 r2 r3 r4).os (ch b c)) ((data x1 x3 x5 x8 x9 r0 r1 r2 r3 r4).k (ch b c) h) ((data x1 x3 x5 x8 x9 r0 r1 r2 r3 r4).v (ch b c) h) i j := by
  simp only [Spec.dscore, ← prob_at x1 x3 x5 x8 x9 r0 r1 r2 r3 r4, ← dprob_at x1 x3 x5 x8 x9 r0 r1 r2 r3 r4]
  pointwise [val_main_v53, val_main_v54, val_main_v55, val_main_v56, val_main_v57, val_main_v58, val_main_v60, val_main_cst_2]

/-- The gradient of the queries by chunk and head. -/
theorem dq_at (b : Fin 6) (c : Fin 32) (h : Fin 16) (i : Fin 64) (d : Fin 256) :
    val_main_v72 (F := Ideal) x1 x3 x5 x8 x9 r0 r1 r2 r3 r4 (ix5 b c h i d) = (data x1 x3 x5 x8 x9 r0 r1 r2 r3 r4).dq (ch b c) h i d := by
  simp only [Spec.Data.dq, Spec.dq, ← dscore_at x1 x3 x5 x8 x9 r0 r1 r2 r3 r4, ← k_at x1 x3 x5 x8 x9 r0 r1 r2 r3 r4]
  pointwise [val_main_v69, val_main_v70, val_main_v71, val_main_v72, val_main_cst_3, Spec.scale]

/-- The gradient of the keys by chunk and head. -/
theorem dk_at (b : Fin 6) (c : Fin 32) (h : Fin 16) (j : Fin 256) (d : Fin 256) :
    val_main_v78 (F := Ideal) x1 x3 x5 x8 x9 r0 r1 r2 r3 r4 (ix5 b c h j d) = (data x1 x3 x5 x8 x9 r0 r1 r2 r3 r4).dk (ch b c) h j d := by
  simp only [Spec.Data.dk, Spec.dk, ← dscore_at x1 x3 x5 x8 x9 r0 r1 r2 r3 r4, ← q_at x1 x3 x5 x8 x9 r0 r1 r2 r3 r4, ← qs_at x1 x3 x5 x8 x9 r0 r1 r2 r3 r4]
  pointwise [val_main_v61, val_main_v62, val_main_v63, val_main_v64, val_main_v75, val_main_v76, val_main_v77, val_main_v78, val_main_cst_4, Spec.scale]

/-- The gradient of the values by chunk and head. -/
theorem dv_at (b : Fin 6) (c : Fin 32) (h : Fin 16) (j : Fin 256) (d : Fin 256) :
    val_main_v80 (F := Ideal) x1 x3 x5 x8 r0 r1 r2 r3 (ix5 b c h j d) = (data x1 x3 x5 x8 x9 r0 r1 r2 r3 r4).dv (ch b c) h j d := by
  simp only [Spec.Data.dv, Spec.dv, ← prob_at x1 x3 x5 x8 x9 r0 r1 r2 r3 r4, ← o_at x1 x3 x5 x8 x9 r0 r1 r2 r3 r4, ← os_at x1 x3 x5 x8 x9 r0 r1 r2 r3 r4]
  pointwise [val_main_v59, val_main_v65, val_main_v66, val_main_v67, val_main_v68, val_main_v79, val_main_v80]

end Cert.ReferenceIdeal.Math

end
-- ==== Proof.Inputs.lean ====
/- The kernel's matrices and the reference's are the same readings of the launch arguments. -/
module

public import proofs.«01_k».proof.Proof.Results
public import proofs.«01_k».proof.Proof.RefRead

@[expose] public section

set_option maxRecDepth 16384

noncomputable section

namespace Cert.KernelIdeal.Inputs

open Cert.KernelIdeal Cert.KernelIdeal.Gen Cert.KernelIdeal.Attn
open Idealize.ShloMosaic Idealize.ShloMosaic.TcCoe Idealize.SL.Sem

variable (m : (ℓ : Loc nD τ sig) → Buf (Elt Ideal) ℓ) (ρ : Dev nD → PrngReg) (c : Dev nD)

/-- The problem's matrices, read off ten arrays shaped as the launch arguments. -/
abbrev args (a0 : Vec Ideal S6x2048x16x256 .fp8e4m3) (a1 : Vec Ideal S6x2048x16 .f32) (a2 : Vec Ideal S6x2048x4096 .fp8e5m2)
    (a3 : Vec Ideal S6x2048 .f32) (a4 : Vec Ideal S6x32x2x128x1536 .fp8e4m3) (a5 : Vec Ideal S6x32x2x128 .f32)
    (a6 a7 : Vec Ideal S1536x4096 .i8) (a8 a9 : Vec Ideal S4096 .f32) : Spec.Data :=
  Cert.ReferenceIdeal.Math.data a1 a3 a5 a8 a9 (fun y => a0 y) (fun y => a2 y) (fun y => a4 y)
    (fun y => (FloatOps.sitofp .bf16 (a6 y) : Ideal .bf16)) (fun y => (FloatOps.sitofp .bf16 (a7 y) : Ideal .bf16))

theorem v0_eq : (V1 m ρ c main_v0 : Vec Ideal S12288x4096 .fp8e4m3)
    = shapeCast _ (m ((c : Thread nD τ).loc main_arg0) : Vec Ideal S6x2048x16x256 .fp8e4m3) shapeCasts_S6x2048x16x256_S12288x4096 := by
  show StableHlo.after hostOps0 (W0 m ρ c) (Proc.devRef .tc main_v0) = _
  after_results_simp
  rfl
theorem v1_eq : (V1 m ρ c main_v1 : Vec Ideal S12288x16 .f32)
    = shapeCast _ (m ((c : Thread nD τ).loc main_arg1) : Vec Ideal S6x2048x16 .f32) shapeCasts_S6x2048x16_S12288x16 := by
  show StableHlo.after hostOps0 (W0 m ρ c) (Proc.devRef .tc main_v1) = _
  after_results_simp
  rfl
theorem v2_eq : (V1 m ρ c main_v2 : Vec Ideal S12288x4096 .fp8e5m2)
    = shapeCast _ (m ((c : Thread nD τ).loc main_arg2) : Vec Ideal S6x2048x4096 .fp8e5m2) shapeCasts_S6x2048x4096_S12288x4096 := by
  show StableHlo.after hostOps0 (W0 m ρ c) (Proc.devRef .tc main_v2) = _
  after_results_simp
  rfl
theorem v3_eq : (V1 m ρ c main_v3 : Vec Ideal S12288x1 .f32)
    = shapeCast _ (m ((c : Thread nD τ).loc main_arg3) : Vec Ideal S6x2048 .f32) shapeCasts_S6x2048_S12288x1 := by
  show StableHlo.after hostOps0 (W0 m ρ c) (Proc.devRef .tc main_v3) = _
  after_results_simp
  rfl
theorem v4_eq : (V1 m ρ c main_v4 : Vec Ideal S49152x1536 .fp8e4m3)
    = shapeCast _ (m ((c : Thread nD τ).loc main_arg4) : Vec Ideal S6x32x2x128x1536 .fp8e4m3) shapeCasts_S6x32x2x128x1536_S49152x1536 := by
  show StableHlo.after hostOps0 (W0 m ρ c) (Proc.devRef .tc main_v4) = _
  after_results_simp
  rfl
theorem v5_eq : (V1 m ρ c main_v5 : Vec Ideal S49152x1 .f32)
    = shapeCast _ (m ((c : Thread nD τ).loc main_arg5) : Vec Ideal S6x32x2x128 .f32) shapeCasts_S6x32x2x128_S49152x1 := by
  show StableHlo.after hostOps0 (W0 m ρ c) (Proc.devRef .tc main_v5) = _
  after_results_simp
  rfl
theorem v6_eq : (V1 m ρ c main_v6 : Vec Ideal S1x4096 .f32)
    = broadcastInDim S1x4096 ![1] bcast_S4096_S1x4096_1 (m ((c : Thread nD τ).loc main_arg8) : Vec Ideal S4096 .f32) := by
  show StableHlo.after hostOps0 (W0 m ρ c) (Proc.devRef .tc main_v6) = _
  after_results_simp
theorem v7_eq : (V1 m ρ c main_v7 : Vec Ideal S1x4096 .f32)
    = broadcastInDim S1x4096 ![1] bcast_S4096_S1x4096_1 (m ((c : Thread nD τ).loc main_arg9) : Vec Ideal S4096 .f32) := by
  show StableHlo.after hostOps0 (W0 m ρ c) (Proc.devRef .tc main_v7) = _
  after_results_simp

/-! The reshapes, read at an index. -/

theorem at0 (X : Vec Ideal S6x2048x16x256 .fp8e4m3) (r : Fin 12288) (n : Fin 4096) :
    shapeCast S12288x4096 X shapeCasts_S6x2048x16x256_S12288x4096 (ix2 r n)
      = X (ix4 (⟨r.val / 2048, by omega⟩ : Fin 6) (⟨r.val % 2048, by omega⟩ : Fin 2048) (⟨n.val / 256, by omega⟩ : Fin 16) (⟨n.val % 256, by omega⟩ : Fin 256)) := by
  pointwise []
theorem at1 (X : Vec Ideal S6x2048x16 .f32) (r : Fin 12288) (n : Fin 16) :
    shapeCast S12288x16 X shapeCasts_S6x2048x16_S12288x16 (ix2 r n)
      = X (ix3 (⟨r.val / 2048, by omega⟩ : Fin 6) (⟨r.val % 2048, by omega⟩ : Fin 2048) n) := by
  pointwise []
theorem at2 (X : Vec Ideal S6x2048x4096 .fp8e5m2) (r : Fin 12288) (n : Fin 4096) :
    shapeCast S12288x4096 X shapeCasts_S6x2048x4096_S12288x4096 (ix2 r n)
      = X (ix3 (⟨r.val / 2048, by omega⟩ : Fin 6) (⟨r.val % 2048, by omega⟩ : Fin 2048) n) := by
  pointwise []
theorem at3 (X : Vec Ideal S6x2048 .f32) (r : Fin 12288) :
    shapeCast S12288x1 X shapeCasts_S6x2048_S12288x1 (ix2 r 0)
      = X (ix2 (⟨r.val / 2048, by omega⟩ : Fin 6) (⟨r.val % 2048, by omega⟩ : Fin 2048)) := by
  pointwise []
theorem at4 (X : Vec Ideal S6x32x2x128x1536 .fp8e4m3) (r : Fin 49152) (e : Fin 1536) :
    shapeCast S49152x1536 X shapeCasts_S6x32x2x128x1536_S49152x1536 (ix2 r e)
      = X (ix5 (⟨r.val / 8192, by omega⟩ : Fin 6) (⟨r.val / 256 % 32, by omega⟩ : Fin 32) (⟨r.val / 128 % 2, by omega⟩ : Fin 2) (⟨r.val % 128, by omega⟩ : Fin 128) e) := by
  pointwise []
theorem at5 (X : Vec Ideal S6x32x2x128 .f32) (r : Fin 49152) :
    shapeCast S49152x1 X shapeCasts_S6x32x2x128_S49152x1 (ix2 r 0)
      = X (ix4 (⟨r.val / 8192, by omega⟩ : Fin 6) (⟨r.val / 256 % 32, by omega⟩ : Fin 32) (⟨r.val / 128 % 2, by omega⟩ : Fin 2) (⟨r.val % 128, by omega⟩ : Fin 128)) := by
  pointwise []
theorem at6 (X : Vec Ideal S4096 .f32) (n : Fin 4096) :
    broadcastInDim S1x4096 ![1] bcast_S4096_S1x4096_1 X (ix2 0 n) = X (ix1 n) := by
  pointwise []

/-- The arrays the first stage reads are the launch arguments' matrices. -/
theorem data_eq : data (V1 m ρ) c = args (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := by
  have h6 : V1 m ρ c main_arg6 = m ((c : Thread nD τ).loc main_arg6) := W1_args m ρ c main_arg6 (by decide)
  have h7 : V1 m ρ c main_arg7 = m ((c : Thread nD τ).loc main_arg7) := W1_args m ρ c main_arg7 (by decide)
  rw [data, args, Cert.ReferenceIdeal.Math.data, v0_eq, v1_eq, v2_eq, v3_eq, v4_eq, v5_eq, v6_eq, v7_eq, h6, h7]
  congr 1
  · exact funext fun r => funext fun n => at0 _ r n
  · exact funext fun r => funext fun n => at1 _ r n
  · exact funext fun r => funext fun n => at2 _ r n
  · exact funext fun r => at3 _ r
  · exact funext fun r => funext fun n => at4 _ r n
  · exact funext fun r => at5 _ r
  · exact funext fun n => at6 _ n
  · exact funext fun n => at6 _ n

end Cert.KernelIdeal.Inputs

end
-- ==== Proof.RefResults.lean ====
/- The reference's four results, read at an index, as the problem's gradients. -/
module

public import proofs.«01_k».proof.Proof.RefRead

@[expose] public section

set_option maxRecDepth 16384

noncomputable section

namespace Cert.ReferenceIdeal.Math

open Cert.ReferenceIdeal Cert.ReferenceIdeal.Gen Cert.ReferenceIdeal.Read Idealize.ShloMosaic Idealize.ShloMosaic.TcCoe

variable (x1 : Vec Ideal S6x2048x16 .f32) (x3 : Vec Ideal S6x2048 .f32) (x5 : Vec Ideal S6x32x2x128 .f32)
  (x8 x9 : Vec Ideal S4096 .f32) (r0 : Vec Ideal S6x2048x16x256 .bf16) (r1 : Vec Ideal S6x2048x4096 .bf16)
  (r2 : Vec Ideal S6x32x2x128x1536 .bf16) (r3 r4 : Vec Ideal S1536x4096 .bf16)

/-- The queries' gradient. -/
theorem dq_result (b : Fin 6) (n : Fin 2048) (h : Fin 16) (d : Fin 256) :
    val_main_v74 (F := Ideal) x1 x3 x5 x8 x9 r0 r1 r2 r3 r4 (ix4 b n h d)
      = (data x1 x3 x5 x8 x9 r0 r1 r2 r3 r4).dq (ch b ⟨n.val / 64, by omega⟩) h ⟨n.val % 64, by omega⟩ d := by
  rw [← dq_at]
  pointwise [val_main_v73, val_main_v74]

/-- The keys' gradient as a matrix. -/
theorem dk_flat (b : Fin 6) (r : Fin 8192) (n : Fin 4096) :
    val_main_v82 (F := Ideal) x1 x3 x5 x8 x9 r0 r1 r2 r3 r4 (ix3 b r n)
      = Spec.Data.flat (data x1 x3 x5 x8 x9 r0 r1 r2 r3 r4).dk ⟨b.val * 8192 + r.val, by omega⟩ n := by
  have hc : (⟨(b.val * 8192 + r.val) / 256, by omega⟩ : Fin 192) = ch b ⟨r.val / 256, by omega⟩ :=
    Fin.ext (by show (b.val * 8192 + r.val) / 256 = 32 * b.val + r.val / 256; omega)
  have hj : (⟨(b.val * 8192 + r.val) % 256, by omega⟩ : Fin 256) = ⟨r.val % 256, by omega⟩ :=
    Fin.ext (by show (b.val * 8192 + r.val) % 256 = r.val % 256; omega)
  rw [Spec.Data.flat, hc, hj, ← dk_at]
  pointwise [val_main_v81, val_main_v82]

/-- The values' gradient as a matrix. -/
theorem dv_flat (b : Fin 6) (r : Fin 8192) (n : Fin 4096) :
    val_main_v84 (F := Ideal) x1 x3 x5 x8 r0 r1 r2 r3 (ix3 b r n)
      = Spec.Data.flat (data x1 x3 x5 x8 x9 r0 r1 r2 r3 r4).dv ⟨b.val * 8192 + r.val, by omega⟩ n := by
  have hc : (⟨(b.val * 8192 + r.val) / 256, by omega⟩ : Fin 192) = ch b ⟨r.val / 256, by omega⟩ :=
    Fin.ext (by show (b.val * 8192 + r.val) / 256 = 32 * b.val + r.val / 256; omega)
  have hj : (⟨(b.val * 8192 + r.val) % 256, by omega⟩ : Fin 256) = ⟨r.val % 256, by omega⟩ :=
    Fin.ext (by show (b.val * 8192 + r.val) % 256 = r.val % 256; omega)
  rw [Spec.Data.flat, hc, hj, ← dv_at]
  pointwise [val_main_v83, val_main_v84]

/-- The dequantized key weights. -/
theorem wk_at (e : Fin 1536) (n : Fin 4096) : val_main_v4 (F := Ideal) x8 r3 (ix2 e n)
    = (data x1 x3 x5 x8 x9 r0 r1 r2 r3 r4).WK e n * (data x1 x3 x5 x8 x9 r0 r1 r2 r3 r4).WKS n := by
  pointwise [val_main_v1, val_main_v2, val_main_v3, val_main_v4, data]

/-- The dequantized value weights. -/
theorem wv_at (e : Fin 1536) (n : Fin 4096) : val_main_v8 (F := Ideal) x9 r4 (ix2 e n)
    = (data x1 x3 x5 x8 x9 r0 r1 r2 r3 r4).WV e n * (data x1 x3 x5 x8 x9 r0 r1 r2 r3 r4).WVS n := by
  pointwise [val_main_v5, val_main_v6, val_main_v7, val_main_v8, data]

/-- The dequantized embeddings. -/
theorem ed_at (b : Fin 6) (r : Fin 8192) (e : Fin 1536) (hl : b.val * 8192 + r.val < 49152) : val_main_v93 (F := Ideal) x5 r2 (ix3 b r e)
    = (data x1 x3 x5 x8 x9 r0 r1 r2 r3 r4).EM ⟨b.val * 8192 + r.val, hl⟩ e
      * (data x1 x3 x5 x8 x9 r0 r1 r2 r3 r4).ES ⟨b.val * 8192 + r.val, hl⟩ := by
  pointwise [val_main_v9, val_main_v10, val_main_v90, val_main_v91, val_main_v92, val_main_v93, data]
  blk_point

/-- The embeddings' gradient, keys flattened. -/
theorem demb_flat (b : Fin 6) (r : Fin 8192) (e : Fin 1536) :
    val_main_v88 (F := Ideal) x1 x3 x5 x8 x9 r0 r1 r2 r3 r4 (ix3 b r e)
      = (data x1 x3 x5 x8 x9 r0 r1 r2 r3 r4).demb ⟨b.val * 8192 + r.val, by omega⟩ e := by
  have h : val_main_v88 (F := Ideal) x1 x3 x5 x8 x9 r0 r1 r2 r3 r4 (ix3 b r e)
      = (∑ n : Fin 4096, val_main_v82 (F := Ideal) x1 x3 x5 x8 x9 r0 r1 r2 r3 r4 (ix3 b r n) * val_main_v4 (F := Ideal) x8 r3 (ix2 e n))
        + ∑ n : Fin 4096, val_main_v84 (F := Ideal) x1 x3 x5 x8 r0 r1 r2 r3 (ix3 b r n) * val_main_v8 (F := Ideal) x9 r4 (ix2 e n) := by
    rw [val_main_v88_apply, val_main_v87_apply, val_main_v85_apply, val_main_v86_apply]
    generalize val_main_v82 (F := Ideal) x1 x3 x5 x8 x9 r0 r1 r2 r3 r4 = X
    generalize val_main_v84 (F := Ideal) x1 x3 x5 x8 r0 r1 r2 r3 = Y
    generalize val_main_v4 (F := Ideal) x8 r3 = Z
    generalize val_main_v8 (F := Ideal) x9 r4 = W
    have hX : ∀ n : Fin 4096, X (lidx_main_v85 (ix3 b r e) n) = X (ix3 b r n) := fun n => congrArg X (eq_ix3 _)
    have hY : ∀ n : Fin 4096, Y (lidx_main_v86 (ix3 b r e) n) = Y (ix3 b r n) := fun n => congrArg Y (eq_ix3 _)
    have hZ : ∀ n : Fin 4096, Z (ridx_main_v85 (ix3 b r e) n) = Z (ix2 e n) := fun n => congrArg Z (eq_ix2 _)
    have hW : ∀ n : Fin 4096, W (ridx_main_v86 (ix3 b r e) n) = W (ix2 e n) := fun n => congrArg W (eq_ix2 _)
    simp only [hX, hY, hZ, hW]
    rfl
  rw [h, Spec.Data.demb]
  simp only [dk_flat, dv_flat x1 x3 x5 x8 x9 r0 r1 r2 r3 r4, wk_at x1 x3 x5 x8 x9 r0 r1 r2 r3 r4, wv_at x1 x3 x5 x8 x9 r0 r1 r2 r3 r4]

/-- The embeddings' gradient. -/
theorem demb_result (b : Fin 6) (c : Fin 32) (u : Fin 2) (j : Fin 128) (e : Fin 1536) :
    val_main_v89 (F := Ideal) x1 x3 x5 x8 x9 r0 r1 r2 r3 r4 (ix5 b c u j e)
      = (data x1 x3 x5 x8 x9 r0 r1 r2 r3 r4).demb ⟨b.val * 8192 + (c.val * 256 + u.val * 128 + j.val), by omega⟩ e := by
  refine Eq.trans ?_ (demb_flat x1 x3 x5 x8 x9 r0 r1 r2 r3 r4 b ⟨c.val * 256 + u.val * 128 + j.val, by omega⟩ e)
  pointwise [val_main_v89]

/-- The key weights' gradient. -/
theorem dwk_result (e : Fin 1536) (n : Fin 4096) :
    val_main_v96 (F := Ideal) x1 x3 x5 x8 x9 r0 r1 r2 r3 r4 (ix2 e n)
      = (data x1 x3 x5 x8 x9 r0 r1 r2 r3 r4).dw (Spec.Data.flat (data x1 x3 x5 x8 x9 r0 r1 r2 r3 r4).dk) e n := by
  have h : val_main_v96 (F := Ideal) x1 x3 x5 x8 x9 r0 r1 r2 r3 r4 (ix2 e n)
      = ∑ b : Fin 6, ∑ r : Fin 8192, val_main_v93 (F := Ideal) x5 r2 (ix3 b r e) * val_main_v82 (F := Ideal) x1 x3 x5 x8 x9 r0 r1 r2 r3 r4 (ix3 b r n) := by
    pointwise [val_main_v94, val_main_v96, val_main_cst_5]
  rw [h, Spec.Data.dw]
  refine Fin.sum_mul_add_congr fun b r hl => ?_
  rw [dk_flat x1 x3 x5 x8 x9 r0 r1 r2 r3 r4, ed_at x1 x3 x5 x8 x9 r0 r1 r2 r3 r4 b r e hl]

/-- The value weights' gradient. -/
theorem dwv_result (e : Fin 1536) (n : Fin 4096) :
    val_main_v97 (F := Ideal) x1 x3 x5 x8 r0 r1 r2 r3 (ix2 e n)
      = (data x1 x3 x5 x8 x9 r0 r1 r2 r3 r4).dw (Spec.Data.flat (data x1 x3 x5 x8 x9 r0 r1 r2 r3 r4).dv) e n := by
  have h : val_main_v97 (F := Ideal) x1 x3 x5 x8 r0 r1 r2 r3 (ix2 e n)
      = ∑ b : Fin 6, ∑ r : Fin 8192, val_main_v93 (F := Ideal) x5 r2 (ix3 b r e) * val_main_v84 (F := Ideal) x1 x3 x5 x8 r0 r1 r2 r3 (ix3 b r n) := by
    pointwise [val_main_v95, val_main_v97, val_main_cst_6]
  rw [h, Spec.Data.dw]
  refine Fin.sum_mul_add_congr fun b r hl => ?_
  rw [dv_flat x1 x3 x5 x8 x9 r0 r1 r2 r3 r4, ed_at x1 x3 x5 x8 x9 r0 r1 r2 r3 r4 b r e hl]

end Cert.ReferenceIdeal.Math

end
-- ==== Proof.RefRegion.lean ====
/- What the reference's first region leaves: the five arrays of codes as extended reals. -/
module

public import proofs.«01_k».proof.Proof.Gen.ReferenceIdeal.Run
public import Idealize.ShloMosaic.Lib.Pipeline.ValueKit

@[expose] public section

set_option maxRecDepth 16384

noncomputable section

namespace Cert.ReferenceIdeal.Region

open Cert.ReferenceIdeal Cert.ReferenceIdeal.Gen Cert.ReferenceIdeal.Value
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0, 0, 0] ∧ win0_1.index t = ![0, 0, 0] ∧ win0_2.index t = ![0, 0, 0, 0, 0]
    ∧ win0_3.index t = ![0, 0] ∧ win0_4.index t = ![0, 0] ∧ win0_5.index t = ![0, 0, 0, 0] ∧ win0_6.index t = ![0, 0, 0]
    ∧ win0_7.index t = ![0, 0, 0, 0, 0] ∧ win0_8.index t = ![0, 0] ∧ win0_9.index t = ![0, 0] :=
  (by decide +kernel : ∀ t : Fin cfg0.N, _)

/-- The query codes. -/
theorem q_codes (c : Dev nD) : (reg_main_v0_0 m c : Vec Ideal S6x2048x16x256 .bf16) = fun y => (m ((c : Thread nD τ).loc main_arg0) : Vec Ideal S6x2048x16x256 .fp8e4m3) y := by
  rw [reg_main_v0_0]
  refine (dats m 0 c).arrAt_eq_of_covers 5 _ (by decide +kernel) fun t _ y => ?_
  blk_simp
  rw [after0_5]; frame_out
  idx_vars y
  pointwise [k0_pay1]
  blk_point [iblk, V, idx t]

/-- The codes of the output gradients. -/
theorem do_codes (c : Dev nD) : (reg_main_v0_1 m c : Vec Ideal S6x2048x4096 .bf16) = fun y => (m ((c : Thread nD τ).loc main_arg2) : Vec Ideal S6x2048x4096 .fp8e5m2) y := by
  rw [reg_main_v0_1]
  refine (dats m 0 c).arrAt_eq_of_covers 6 _ (by decide +kernel) fun t _ y => ?_
  blk_simp
  rw [after0_6]; frame_out
  idx_vars y
  pointwise [k0_pay2]
  blk_point [iblk, V, idx t]

/-- The embedding codes. -/
theorem emb_codes (c : Dev nD) : (reg_main_v0_2 m c : Vec Ideal S6x32x2x128x1536 .bf16) = fun y => (m ((c : Thread nD τ).loc main_arg4) : Vec Ideal S6x32x2x128x1536 .fp8e4m3) y := by
  rw [reg_main_v0_2]
  refine (dats m 0 c).arrAt_eq_of_covers 7 _ (by decide +kernel) fun t _ y => ?_
  blk_simp
  rw [after0_7]; frame_out
  idx_vars y
  pointwise [k0_pay3]
  blk_point [iblk, V, idx t]

/-- The key weight codes. -/
theorem wk_codes (c : Dev nD) : (reg_main_v0_3 m c : Vec Ideal S1536x4096 .bf16) = fun y => (FloatOps.sitofp .bf16 ((m ((c : Thread nD τ).loc main_arg6) : Vec Ideal S1536x4096 .i8) y) : Ideal .bf16) := by
  rw [reg_main_v0_3]
  refine (dats m 0 c).arrAt_eq_of_covers 8 _ (by decide +kernel) fun t _ y => ?_
  blk_simp
  rw [after0_8]; frame_out
  idx_vars y
  pointwise [k0_pay4]
  blk_point [iblk, V, idx t]

/-- The value weight codes. -/
theorem wv_codes (c : Dev nD) : (reg_main_v0_4 m c : Vec Ideal S1536x4096 .bf16) = fun y => (FloatOps.sitofp .bf16 ((m ((c : Thread nD τ).loc main_arg7) : Vec Ideal S1536x4096 .i8) y) : Ideal .bf16) := by
  rw [reg_main_v0_4]
  refine (dats m 0 c).arrAt_eq_of_covers 9 _ (by decide +kernel) fun t _ y => ?_
  blk_simp
  rw [after0_9]; frame_out
  idx_vars y
  pointwise [k0_pay5]
  blk_point [iblk, V, idx t]

end Cert.ReferenceIdeal.Region

end
-- ==== Proof.RefFinal.lean ====
/- The reference's four results, read at an index, as the problem's gradients of its launch arguments. -/
module

public import proofs.«01_k».proof.Proof.Inputs
public import proofs.«01_k».proof.Proof.RefResults
public import proofs.«01_k».proof.Proof.RefRegion

@[expose] public section

set_option maxRecDepth 16384

noncomputable section

namespace Cert.ReferenceIdeal.Final

open Cert.ReferenceIdeal Cert.ReferenceIdeal.Gen Cert.ReferenceIdeal.Value Cert.ReferenceIdeal.Read
open Idealize.ShloMosaic Idealize.ShloMosaic.TcCoe Idealize.SL.Sem

variable (m : (ℓ : Loc nD τ sig) → Buf (Elt Ideal) ℓ) (c : Dev nD)

/-- The problem's matrices, read off the launch arguments. -/
abbrev given : Spec.Data :=
  Cert.KernelIdeal.Inputs.args (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The arrays the reference computes from after its first region are those matrices. -/
theorem data_eq : Math.data (exitV m c (Proc.devRef .tc main_arg1)) (exitV m c (Proc.devRef .tc main_arg3)) (exitV m c (Proc.devRef .tc main_arg5)) (exitV m c (Proc.devRef .tc main_arg8)) (exitV m c (Proc.devRef .tc main_arg9)) (exitV m c (Proc.devRef .tc main_v0_0)) (exitV m c (Proc.devRef .tc main_v0_1)) (exitV m c (Proc.devRef .tc main_v0_2)) (exitV m c (Proc.devRef .tc main_v0_3)) (exitV m c (Proc.devRef .tc main_v0_4)) = given m c := by
  rw [exit_main_arg1, exit_main_arg3, exit_main_arg5, exit_main_arg8, exit_main_arg9, exit_main_v0_0, exit_main_v0_1, exit_main_v0_2,
    exit_main_v0_3, exit_main_v0_4, Region.q_codes, Region.do_codes, Region.emb_codes, Region.wk_codes, Region.wv_codes]
  rfl

/-- The queries' gradient. -/
theorem dq (b : Fin 6) (n : Fin 2048) (h : Fin 16) (d : Fin 256) :
    val_main_v74 (F := Ideal) (exitV m c (Proc.devRef .tc main_arg1)) (exitV m c (Proc.devRef .tc main_arg3)) (exitV m c (Proc.devRef .tc main_arg5)) (exitV m c (Proc.devRef .tc main_arg8)) (exitV m c (Proc.devRef .tc main_arg9)) (exitV m c (Proc.devRef .tc main_v0_0)) (exitV m c (Proc.devRef .tc main_v0_1)) (exitV m c (Proc.devRef .tc main_v0_2)) (exitV m c (Proc.devRef .tc main_v0_3)) (exitV m c (Proc.devRef .tc main_v0_4)) (ix4 b n h d)
      = (given m c).dq ⟨32 * b.val + n.val / 64, by omega⟩ h ⟨n.val % 64, by omega⟩ d := by
  rw [← data_eq]
  exact Math.dq_result _ _ _ _ _ _ _ _ _ _ b n h d

/-- The embeddings' gradient. -/
theorem demb (b : Fin 6) (k : Fin 32) (u : Fin 2) (j : Fin 128) (e : Fin 1536) :
    val_main_v89 (F := Ideal) (exitV m c (Proc.devRef .tc main_arg1)) (exitV m c (Proc.devRef .tc main_arg3)) (exitV m c (Proc.devRef .tc main_arg5)) (exitV m c (Proc.devRef .tc main_arg8)) (exitV m c (Proc.devRef .tc main_arg9)) (exitV m c (Proc.devRef .tc main_v0_0)) (exitV m c (Proc.devRef .tc main_v0_1)) (exitV m c (Proc.devRef .tc main_v0_2)) (exitV m c (Proc.devRef .tc main_v0_3)) (exitV m c (Proc.devRef .tc main_v0_4)) (ix5 b k u j e)
      = (given m c).demb ⟨b.val * 8192 + (k.val * 256 + u.val * 128 + j.val), by omega⟩ e := by
  rw [← data_eq]
  exact Math.demb_result _ _ _ _ _ _ _ _ _ _ b k u j e

/-- The key weights' gradient. -/
theorem dwk (e : Fin 1536) (n : Fin 4096) :
    val_main_v96 (F := Ideal) (exitV m c (Proc.devRef .tc main_arg1)) (exitV m c (Proc.devRef .tc main_arg3)) (exitV m c (Proc.devRef .tc main_arg5)) (exitV m c (Proc.devRef .tc main_arg8)) (exitV m c (Proc.devRef .tc main_arg9)) (exitV m c (Proc.devRef .tc main_v0_0)) (exitV m c (Proc.devRef .tc main_v0_1)) (exitV m c (Proc.devRef .tc main_v0_2)) (exitV m c (Proc.devRef .tc main_v0_3)) (exitV m c (Proc.devRef .tc main_v0_4)) (ix2 e n) = (given m c).dw (Spec.Data.flat (given m c).dk) e n := by
  rw [← data_eq]
  exact Math.dwk_result _ _ _ _ _ _ _ _ _ _ e n

/-- The value weights' gradient. -/
theorem dwv (e : Fin 1536) (n : Fin 4096) :
    val_main_v97 (F := Ideal) (exitV m c (Proc.devRef .tc main_arg1)) (exitV m c (Proc.devRef .tc main_arg3)) (exitV m c (Proc.devRef .tc main_arg5)) (exitV m c (Proc.devRef .tc main_arg8)) (exitV m c (Proc.devRef .tc main_v0_0)) (exitV m c (Proc.devRef .tc main_v0_1)) (exitV m c (Proc.devRef .tc main_v0_2)) (exitV m c (Proc.devRef .tc main_v0_3)) (ix2 e n) = (given m c).dw (Spec.Data.flat (given m c).dv) e n := by
  rw [← data_eq]
  exact Math.dwv_result _ _ _ _ _ _ _ _ _ _ e n

end Cert.ReferenceIdeal.Final

end
-- ==== Proof.lean ====
/- The proof of the certificate's claims: the three frames, that the ideal program is the kernel over the extended reals, and
   that kernel and reference return the same four gradients over the extended reals. The mathematics is in the modules
   imported here; this one says that the two programs' results are equal, one by one, and assembles. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.RefFinal
public import Idealize.ShloMosaic.Lib.Claim
public import Idealize.ShloMosaic.Adequacy
public import Idealize.ShloMosaic.Init

@[expose] public section

noncomputable section

namespace Cert.Proof

open Idealize.ShloMosaic Idealize.SL.Sem Cert.Kernel

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The problem's matrices are the same in the two programs. -/
abbrev Same : Prop := Cert.ReferenceIdeal.Final.given m' c = Cert.KernelIdeal.Attn.data (Cert.KernelIdeal.Gen.V1 m g) c

/-- They are, where the launch arguments agree. -/
theorem same
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : Same m g m' c := by
  obtain ⟨h0, h1, h2, h3, h4, h5, h6, h7, h8, h9⟩ := h
  rw [Same, Cert.KernelIdeal.Inputs.data_eq, Cert.ReferenceIdeal.Final.given, h0, h1, h2, h3, h4, h5, h6, h7, h8, h9]

/-- The queries' gradient: the reference's is the kernel's. -/
theorem dq_eq (hs : Same m g m' c) : Cert.ReferenceIdeal.Read.val_main_v74 (F := Ideal) (Cert.ReferenceIdeal.Value.exitV m' c (Proc.devRef .tc Cert.ReferenceIdeal.main_arg1)) (Cert.ReferenceIdeal.Value.exitV m' c (Proc.devRef .tc Cert.ReferenceIdeal.main_arg3)) (Cert.ReferenceIdeal.Value.exitV m' c (Proc.devRef .tc Cert.ReferenceIdeal.main_arg5)) (Cert.ReferenceIdeal.Value.exitV m' c (Proc.devRef .tc Cert.ReferenceIdeal.main_arg8)) (Cert.ReferenceIdeal.Value.exitV m' c (Proc.devRef .tc Cert.ReferenceIdeal.main_arg9)) (Cert.ReferenceIdeal.Value.exitV m' c (Proc.devRef .tc Cert.ReferenceIdeal.main_v0_0)) (Cert.ReferenceIdeal.Value.exitV m' c (Proc.devRef .tc Cert.ReferenceIdeal.main_v0_1)) (Cert.ReferenceIdeal.Value.exitV m' c (Proc.devRef .tc Cert.ReferenceIdeal.main_v0_2)) (Cert.ReferenceIdeal.Value.exitV m' c (Proc.devRef .tc Cert.ReferenceIdeal.main_v0_3)) (Cert.ReferenceIdeal.Value.exitV m' c (Proc.devRef .tc Cert.ReferenceIdeal.main_v0_4))
    = Cert.KernelIdeal.Results.out_dq m g c := by
  funext y
  obtain ⟨b, n, h, d, rfl⟩ : ∃ b n h d, y = ix4 b n h d := ⟨y 0, y 1, y 2, y 3, eq_ix4 y⟩
  refine (Cert.ReferenceIdeal.Final.dq m' c b n h d).trans ?_
  rw [hs]
  exact (Cert.KernelIdeal.Results.dq_result m g c b n h d).symm

/-- The embeddings' gradient: the reference's is the kernel's. -/
theorem demb_eq (hs : Same m g m' c) : Cert.ReferenceIdeal.Read.val_main_v89 (F := Ideal) (Cert.ReferenceIdeal.Value.exitV m' c (Proc.devRef .tc Cert.ReferenceIdeal.main_arg1)) (Cert.ReferenceIdeal.Value.exitV m' c (Proc.devRef .tc Cert.ReferenceIdeal.main_arg3)) (Cert.ReferenceIdeal.Value.exitV m' c (Proc.devRef .tc Cert.ReferenceIdeal.main_arg5)) (Cert.ReferenceIdeal.Value.exitV m' c (Proc.devRef .tc Cert.ReferenceIdeal.main_arg8)) (Cert.ReferenceIdeal.Value.exitV m' c (Proc.devRef .tc Cert.ReferenceIdeal.main_arg9)) (Cert.ReferenceIdeal.Value.exitV m' c (Proc.devRef .tc Cert.ReferenceIdeal.main_v0_0)) (Cert.ReferenceIdeal.Value.exitV m' c (Proc.devRef .tc Cert.ReferenceIdeal.main_v0_1)) (Cert.ReferenceIdeal.Value.exitV m' c (Proc.devRef .tc Cert.ReferenceIdeal.main_v0_2)) (Cert.ReferenceIdeal.Value.exitV m' c (Proc.devRef .tc Cert.ReferenceIdeal.main_v0_3)) (Cert.ReferenceIdeal.Value.exitV m' c (Proc.devRef .tc Cert.ReferenceIdeal.main_v0_4))
    = Cert.KernelIdeal.Results.out_demb m g c := by
  funext y
  obtain ⟨b, k, u, j, e, rfl⟩ : ∃ b k u j e, y = ix5 b k u j e := ⟨y 0, y 1, y 2, y 3, y 4, eq_ix5 y⟩
  refine (Cert.ReferenceIdeal.Final.demb m' c b k u j e).trans ?_
  rw [hs]
  exact (Cert.KernelIdeal.Results.demb_result m g c b k u j e).symm

/-- The key weights' gradient: the reference's is the kernel's. -/
theorem dwk_eq (hs : Same m g m' c) : Cert.ReferenceIdeal.Read.val_main_v96 (F := Ideal) (Cert.ReferenceIdeal.Value.exitV m' c (Proc.devRef .tc Cert.ReferenceIdeal.main_arg1)) (Cert.ReferenceIdeal.Value.exitV m' c (Proc.devRef .tc Cert.ReferenceIdeal.main_arg3)) (Cert.ReferenceIdeal.Value.exitV m' c (Proc.devRef .tc Cert.ReferenceIdeal.main_arg5)) (Cert.ReferenceIdeal.Value.exitV m' c (Proc.devRef .tc Cert.ReferenceIdeal.main_arg8)) (Cert.ReferenceIdeal.Value.exitV m' c (Proc.devRef .tc Cert.ReferenceIdeal.main_arg9)) (Cert.ReferenceIdeal.Value.exitV m' c (Proc.devRef .tc Cert.ReferenceIdeal.main_v0_0)) (Cert.ReferenceIdeal.Value.exitV m' c (Proc.devRef .tc Cert.ReferenceIdeal.main_v0_1)) (Cert.ReferenceIdeal.Value.exitV m' c (Proc.devRef .tc Cert.ReferenceIdeal.main_v0_2)) (Cert.ReferenceIdeal.Value.exitV m' c (Proc.devRef .tc Cert.ReferenceIdeal.main_v0_3)) (Cert.ReferenceIdeal.Value.exitV m' c (Proc.devRef .tc Cert.ReferenceIdeal.main_v0_4))
    = Cert.KernelIdeal.Results.out_dwk m g c := by
  funext y
  obtain ⟨e, n, rfl⟩ : ∃ e n, y = ix2 e n := ⟨y 0, y 1, eq_ix2 y⟩
  refine (Cert.ReferenceIdeal.Final.dwk m' c e n).trans ?_
  rw [hs]
  exact (Cert.KernelIdeal.Results.dwk_result m g c e n).symm

/-- The value weights' gradient: the reference's is the kernel's. -/
theorem dwv_eq (hs : Same m g m' c) : Cert.ReferenceIdeal.Read.val_main_v97 (F := Ideal) (Cert.ReferenceIdeal.Value.exitV m' c (Proc.devRef .tc Cert.ReferenceIdeal.main_arg1)) (Cert.ReferenceIdeal.Value.exitV m' c (Proc.devRef .tc Cert.ReferenceIdeal.main_arg3)) (Cert.ReferenceIdeal.Value.exitV m' c (Proc.devRef .tc Cert.ReferenceIdeal.main_arg5)) (Cert.ReferenceIdeal.Value.exitV m' c (Proc.devRef .tc Cert.ReferenceIdeal.main_arg8)) (Cert.ReferenceIdeal.Value.exitV m' c (Proc.devRef .tc Cert.ReferenceIdeal.main_v0_0)) (Cert.ReferenceIdeal.Value.exitV m' c (Proc.devRef .tc Cert.ReferenceIdeal.main_v0_1)) (Cert.ReferenceIdeal.Value.exitV m' c (Proc.devRef .tc Cert.ReferenceIdeal.main_v0_2)) (Cert.ReferenceIdeal.Value.exitV m' c (Proc.devRef .tc Cert.ReferenceIdeal.main_v0_3))
    = Cert.KernelIdeal.Results.out_dwv m g c := by
  funext y
  obtain ⟨e, n, rfl⟩ : ∃ e n, y = ix2 e n := ⟨y 0, y 1, eq_ix2 y⟩
  refine (Cert.ReferenceIdeal.Final.dwv m' c e n).trans ?_
  rw [hs]
  exact (Cert.KernelIdeal.Results.dwv_result m g c e n).symm

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m ρ _ => Cert.ReferenceIdeal.Gen.frame m ρ, trivial, ?_⟩
  pair_intro
  · run_from Cert.KernelIdeal.Results.run _ _
  · run_from Cert.ReferenceIdeal.Value.run _ _
    · exact (Cert.ReferenceIdeal.Read.val_main_v74_eq _).trans (dq_eq m g m' _ (same m g m' _ (hagree _)))
    · exact (Cert.ReferenceIdeal.Read.val_main_v89_eq _).trans (demb_eq m g m' _ (same m g m' _ (hagree _)))
    · exact (Cert.ReferenceIdeal.Read.val_main_v96_eq _).trans (dwk_eq m g m' _ (same m g m' _ (hagree _)))
    · exact (Cert.ReferenceIdeal.Read.val_main_v97_eq _).trans (dwv_eq m g m' _ (same m g m' _ (hagree _)))⟩

end Cert.Proof

end
